-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S1024x1024 : Shape := ⟨2, ![1024, 1024]⟩
abbrev S_ : Shape := ⟨0, ![]⟩

class Facts : Prop where
  bcast_S_S2048x1 : S_.BroadcastsInDim S2048x1 (![] : Fin 0 → Fin S2048x1.rank)
  bcast_S_S2048x1024 : S_.BroadcastsInDim S2048x1024 (![] : Fin 0 → Fin S2048x1024.rank)
  bcast_S2048x1_S2048x1024_0_1 : S2048x1.BroadcastsInDim S2048x1024 (![0, 1] : Fin 2 → Fin S2048x1024.rank)
  bcast_S_S1024x32 : S_.BroadcastsInDim S1024x32 (![] : Fin 0 → Fin S1024x32.rank)
  reducesTo_S1024x32_S_d0_1 : S1024x32.ReducesTo [0, 1] S_
  h_S_ : 0 < S_.numel

variable [Facts]

def fn {F : FTy → Type} [FloatOps F] (main_arg0 : FVec F S2048x1024 .bf16) (main_arg1 : FVec F S1024x32 .bf16) (main_arg2 : IVec S2048x1 32) (main_arg3 : FVec F S8x1024x1024 .bf16) (main_arg4 : FVec F S1024x1024 .bf16) : IVec S2048x1024 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_v5 : FVec F S2048x1024 .bf16 := Host.absf main_arg0
  let main_cst : FVec F S_ .bf16 := constant S_ .bf16 0x7F80#16
  let main_v6 : FVec F S2048x1024 .bf16 := broadcastInDim S2048x1024 ![] bcast_S_S2048x1024 main_cst
  let main_v7 : IVec S2048x1024 1 := cmpf .olt main_v5 main_v6
  let main_v8 : IVec S2048x1024 1 := broadcastInDim S2048x1024 ![0, 1] bcast_S2048x1_S2048x1024_0_1 main_v4
  let main_v9 : IVec S2048x1024 1 := andi main_v8 main_v7
  let main_v10 : FVec F S1024x32 .bf16 := Host.absf main_arg1
  let main_cst_1 : FVec F S_ .bf16 := constant S_ .bf16 0x7F80#16
  let main_v11 : FVec F S1024x32 .bf16 := broadcastInDim S1024x32 ![] bcast_S_S1024x32 main_cst_1
  let main_v12 : IVec S1024x32 1 := cmpf .olt main_v10 main_v11
  let main_c_2 : IVec S_ 1 := constantI S_ 1 1#1
  let main_v13 : IVec S_ 1 := (fun x v => Host.reduce IntOp.andi x v reducesTo_S1024x32_S_d0_1 h_S_) main_v12 main_c_2
  let main_v14 : IVec S2048x1024 1 := broadcastInDim S2048x1024 ![] bcast_S_S2048x1024 main_v13
  let main_v15 : IVec S2048x1024 1 := andi main_v9 main_v14
  main_v15
-- ==== Pre_routed_ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S1024x1024 : Shape := ⟨2, ![1024, 1024]⟩
abbrev S_ : Shape := ⟨0, ![]⟩

class Facts : Prop where
  bcast_S_S2048x1 : S_.BroadcastsInDim S2048x1 (![] : Fin 0 → Fin S2048x1.rank)
  bcast_S_S2048x1024 : S_.BroadcastsInDim S2048x1024 (![] : Fin 0 → Fin S2048x1024.rank)
  bcast_S2048x1_S2048x1024_0_1 : S2048x1.BroadcastsInDim S2048x1024 (![0, 1] : Fin 2 → Fin S2048x1024.rank)
  bcast_S_S1024x32 : S_.BroadcastsInDim S1024x32 (![] : Fin 0 → Fin S1024x32.rank)
  reducesTo_S1024x32_S_d0_1 : S1024x32.ReducesTo [0, 1] S_
  h_S_ : 0 < S_.numel

variable [Facts]

def fn {F : FTy → Type} [FloatOps F] (main_arg0 : FVec F S2048x1024 .bf16) (main_arg1 : FVec F S1024x32 .bf16) (main_arg2 : IVec S2048x1 32) (main_arg3 : FVec F S32x1024x1024 .bf16) (main_arg4 : FVec F S1024x1024 .bf16) : IVec S2048x1024 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_v5 : FVec F S2048x1024 .bf16 := Host.absf main_arg0
  let main_cst : FVec F S_ .bf16 := constant S_ .bf16 0x7F80#16
  let main_v6 : FVec F S2048x1024 .bf16 := broadcastInDim S2048x1024 ![] bcast_S_S2048x1024 main_cst
  let main_v7 : IVec S2048x1024 1 := cmpf .olt main_v5 main_v6
  let main_v8 : IVec S2048x1024 1 := broadcastInDim S2048x1024 ![0, 1] bcast_S2048x1_S2048x1024_0_1 main_v4
  let main_v9 : IVec S2048x1024 1 := andi main_v8 main_v7
  let main_v10 : FVec F S1024x32 .bf16 := Host.absf main_arg1
  let main_cst_1 : FVec F S_ .bf16 := constant S_ .bf16 0x7F80#16
  let main_v11 : FVec F S1024x32 .bf16 := broadcastInDim S1024x32 ![] bcast_S_S1024x32 main_cst_1
  let main_v12 : IVec S1024x32 1 := cmpf .olt main_v10 main_v11
  let main_c_2 : IVec S_ 1 := constantI S_ 1 1#1
  let main_v13 : IVec S_ 1 := (fun x v => Host.reduce IntOp.andi x v reducesTo_S1024x32_S_d0_1 h_S_) main_v12 main_c_2
  let main_v14 : IVec S2048x1024 1 := broadcastInDim S2048x1024 ![] bcast_S_S2048x1024 main_v13
  let main_v15 : IVec S2048x1024 1 := andi main_v9 main_v14
  main_v15
-- ==== Kernel.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S1024x1024 : Shape := ⟨2, ![1024, 1024]⟩
abbrev S1x1024x1024 : Shape := ⟨3, ![1, 1024, 1024]⟩
abbrev S20x256x1024 : Shape := ⟨3, ![20, 256, 1024]⟩
abbrev S2048x32 : Shape := ⟨2, ![2048, 32]⟩
abbrev S8192x1024 : Shape := ⟨2, ![8192, 1024]⟩
abbrev S12 : Shape := ⟨1, ![12]⟩
abbrev S256x32 : Shape := ⟨2, ![256, 32]⟩
abbrev S_ : Shape := ⟨0, ![]⟩
abbrev S2048 : Shape := ⟨1, ![2048]⟩
abbrev S256 : Shape := ⟨1, ![256]⟩
abbrev S256x1 : Shape := ⟨2, ![256, 1]⟩
abbrev S256x1024 : Shape := ⟨2, ![256, 1024]⟩
abbrev S256x8192 : Shape := ⟨2, ![256, 8192]⟩
abbrev S1x256x1024 : Shape := ⟨3, ![1, 256, 1024]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x32, .bf16⟩
  | .hbm, ⟨2, _⟩ => ⟨S2048x1, .i32⟩
  | .hbm, ⟨3, _⟩ => ⟨S8x1024x1024, .bf16⟩
  | .hbm, ⟨4, _⟩ => ⟨S1024x1024, .bf16⟩
  | .hbm, ⟨5, _⟩ => ⟨S2048x1024, .bf16⟩
  | .local _ .vmem, ⟨0, _⟩ => ⟨S2048x1024, .bf16⟩
  | .local _ .vmem, ⟨1, _⟩ => ⟨S1024x32, .bf16⟩
  | .local _ .vmem, ⟨2, _⟩ => ⟨S2048x1, .i32⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S20x256x1024, .bf16⟩
  | .local _ .vmem, ⟨8, _⟩ => ⟨S2048x32, .f32⟩
  | .local _ .vmem, ⟨9, _⟩ => ⟨S8192x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev barrier0 : Sem sig := 0

abbrev nD : Nat := 4
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32_7 : BitVec 32 := 0#32
  let v19 : BitVec 1 := Scalar.cmpi .eq arg0 c0_i32_7
  let v20 : BitVec 32 := Scalar.extui v19
  let c0_i32_8 : BitVec 32 := 0#32
  let v21 : BitVec 1 := Scalar.cmpi .ne v20 c0_i32_8
  v21

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_20 : BitVec 32 := 1#32
  let v41 : BitVec 32 := Scalar.muli v4 c1_i32_20
  let v42 : BitVec 32 := Scalar.addi c0_i32_21 v41
  v42.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_23 : BitVec 32 := 1#32
  let v43 : BitVec 32 := Scalar.muli v6 c1_i32_23
  let v44 : BitVec 32 := Scalar.addi c0_i32_24 v43
  v44.toNat
def k0_cond2 (i : grid0.Coords) : BitVec 1 :=
  let arg0 : BitVec 32 := BitVec.ofNat 32 (i 0).val
  let c8_i32_9 : BitVec 32 := 8#32
  let v22 : BitVec 1 := Scalar.cmpi .slt arg0 c8_i32_9
  let v23 : BitVec 32 := Scalar.extui v22
  let c0_i32_10 : BitVec 32 := 0#32
  let v24 : BitVec 1 := Scalar.cmpi .ne v23 c0_i32_10
  v24

def k0_off1 (i : grid0.Coords) : Fin 2 → Nat :=
  let arg0 : BitVec 32 := BitVec.ofNat 32 (i 0).val
  let c1024_i32 : BitVec 32 := 1024#32
  let v42 : BitVec 32 := Scalar.muli arg0 c1024_i32
  let v43 : Index := Scalar.indexCast v42
  let c0_21 : Index := 0#32
  ![v43.toNat, 0]
def k0_off2 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v54 : Index := Scalar.indexCast v15
  let c0_25 : Index := 0#32
  ![v54.toNat, 0]
def k0_off3 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v60 : Index := Scalar.indexCast v15
  let c0_27 : Index := 0#32
  ![v60.toNat, 0]
def k0_off4 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v67 : Index := Scalar.indexCast v15
  let c0_29 : Index := 0#32
  ![v67.toNat, 0]
def k0_off5 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v77 : Index := Scalar.indexCast v17
  let c0_31 : Index := 0#32
  ![v77.toNat, 0]
def k0_off6 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v83 : Index := Scalar.indexCast v17
  let c0_34 : Index := 0#32
  ![v83.toNat, 0]
def k0_off7 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v90 : Index := Scalar.indexCast v17
  let c0_36 : Index := 0#32
  ![v90.toNat, 0]
def k0_cond3 (i : grid0.Coords) : BitVec 1 :=
  let arg0 : BitVec 32 := BitVec.ofNat 32 (i 0).val
  let c0_i32_38 : BitVec 32 := 0#32
  let v98 : BitVec 1 := Scalar.cmpi .eq arg0 c0_i32_38
  let v99 : BitVec 32 := Scalar.extui v98
  let c0_i32_39 : BitVec 32 := 0#32
  let v100 : BitVec 1 := Scalar.cmpi .ne v99 c0_i32_39
  v100

def k0_off8 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v105 : Index := Scalar.indexCast v15
  let c0_42 : Index := 0#32
  ![v105.toNat, 0]
def k0_off9 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v108 : Index := Scalar.indexCast v17
  let c0_43 : Index := 0#32
  ![v108.toNat, 0]
def k0_cond4 (i : grid0.Coords) : BitVec 1 :=
  let arg0 : BitVec 32 := BitVec.ofNat 32 (i 0).val
  let c0_i32_40 : BitVec 32 := 0#32
  let v101 : BitVec 1 := Scalar.cmpi .sgt arg0 c0_i32_40
  let v102 : BitVec 32 := Scalar.extui v101
  let c0_i32_41 : BitVec 32 := 0#32
  let v103 : BitVec 1 := Scalar.cmpi .ne v102 c0_i32_41
  v103

def k0_off10 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v104 : Index := Scalar.indexCast v15
  let c0_42 : Index := 0#32
  ![v104.toNat, 0]
def k0_off11 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v112 : Index := Scalar.indexCast v17
  let c0_44 : Index := 0#32
  ![v112.toNat, 0]
def k0_cond5 (i : grid0.Coords) : BitVec 1 :=
  let arg0 : BitVec 32 := BitVec.ofNat 32 (i 0).val
  let c8_i32_11 : BitVec 32 := 8#32
  let v25 : BitVec 1 := Scalar.cmpi .sge arg0 c8_i32_11
  let v26 : BitVec 32 := Scalar.extui v25
  let c0_i32_12 : BitVec 32 := 0#32
  let v27 : BitVec 1 := Scalar.cmpi .ne v26 c0_i32_12
  v27

def k0_off12 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v44 : Index := Scalar.indexCast v15
  let c0 : Index := 0#32
  ![v44.toNat, 0]
def k0_off13 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v50 : Index := Scalar.indexCast v15
  let c0_22 : Index := 0#32
  ![v50.toNat, 0]
def k0_off14 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v57 : Index := Scalar.indexCast v15
  let c0_24 : Index := 0#32
  ![v57.toNat, 0]
def k0_off15 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v242 : Index := Scalar.indexCast v17
  let c0_84 : Index := 0#32
  ![v242.toNat, 0]
def k0_off16 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v248 : Index := Scalar.indexCast v17
  let c0_87 : Index := 0#32
  ![v248.toNat, 0]
def k0_off17 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v255 : Index := Scalar.indexCast v17
  let c0_89 : Index := 0#32
  ![v255.toNat, 0]
def k0_cond6 (i : grid0.Coords) : BitVec 1 :=
  let arg0 : BitVec 32 := BitVec.ofNat 32 (i 0).val
  let c7_i32_13 : BitVec 32 := 7#32
  let v28 : BitVec 1 := Scalar.cmpi .eq arg0 c7_i32_13
  let v29 : BitVec 32 := Scalar.extui v28
  let c0_i32_14 : BitVec 32 := 0#32
  let v30 : BitVec 1 := Scalar.cmpi .ne v29 c0_i32_14
  v30

def k0_off18 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v40 : Index := Scalar.indexCast v15
  let c0 : Index := 0#32
  ![v40.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_26 : BitVec 32 := 1#32
  let v46 : BitVec 32 := Scalar.muli v6 c1_i32_26
  let v47 : BitVec 32 := Scalar.addi c0_i32_27 v46
  v47.toNat
def k0_off19 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v56 : Index := Scalar.indexCast v17
  let c0_32 : Index := 0#32
  ![v56.toNat, 0]
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_37 : BitVec 32 := 1#32
  let v62 : BitVec 32 := Scalar.muli v4 c1_i32_37
  let v63 : BitVec 32 := Scalar.addi c0_i32_38 v62
  v63.toNat
def k0_cond7 (i : grid0.Coords) : BitVec 1 :=
  let arg0 : BitVec 32 := BitVec.ofNat 32 (i 0).val
  let c8_i32_15 : BitVec 32 := 8#32
  let v31 : BitVec 1 := Scalar.cmpi .eq arg0 c8_i32_15
  let v32 : BitVec 32 := Scalar.extui v31
  let c0_i32_16 : BitVec 32 := 0#32
  let v33 : BitVec 1 := Scalar.cmpi .ne v32 c0_i32_16
  v33

def k0_off20 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v57 : Index := Scalar.indexCast v15
  let c0_39 : Index := 0#32
  ![v57.toNat, 0]
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_46 : BitVec 32 := 1#32
  let v66 : BitVec 32 := Scalar.muli v6 c1_i32_46
  let v67 : BitVec 32 := Scalar.addi c0_i32_47 v66
  v67.toNat
def k0_off21 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v93 : Index := Scalar.indexCast v17
  let c0_71 : Index := 0#32
  ![v93.toNat, 0]
def k0_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_76 : BitVec 32 := 1#32
  let v102 : BitVec 32 := Scalar.muli v4 c1_i32_76
  let v103 : BitVec 32 := Scalar.addi c0_i32_77 v102
  v103.toNat
def k0_cond8 (i : grid0.Coords) : BitVec 1 :=
  let arg0 : BitVec 32 := BitVec.ofNat 32 (i 0).val
  let c9_i32 : BitVec 32 := 9#32
  let v34 : BitVec 1 := Scalar.cmpi .eq arg0 c9_i32
  let v35 : BitVec 32 := Scalar.extui v34
  let c0_i32_17 : BitVec 32 := 0#32
  let v36 : BitVec 1 := Scalar.cmpi .ne v35 c0_i32_17
  v36

def k0_off22 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v57 : Index := Scalar.indexCast v15
  let c0_39 : Index := 0#32
  ![v57.toNat, 0]
def k0_dev7 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_44 : BitVec 32 := 1#32
  let v66 : BitVec 32 := Scalar.muli v6 c1_i32_44
  let v67 : BitVec 32 := Scalar.addi c0_i32_45 v66
  v67.toNat
def k0_off23 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v93 : Index := Scalar.indexCast v17
  let c0_69 : Index := 0#32
  ![v93.toNat, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_74 : BitVec 32 := 1#32
  let v102 : BitVec 32 := Scalar.muli v4 c1_i32_74
  let v103 : BitVec 32 := Scalar.addi c0_i32_75 v102
  v103.toNat
def k0_cond9 (i : grid0.Coords) : BitVec 1 :=
  let arg0 : BitVec 32 := BitVec.ofNat 32 (i 0).val
  let c10_i32 : BitVec 32 := 10#32
  let v37 : BitVec 1 := Scalar.cmpi .eq arg0 c10_i32
  let v38 : BitVec 32 := Scalar.extui v37
  let c0_i32_18 : BitVec 32 := 0#32
  let v39 : BitVec 1 := Scalar.cmpi .ne v38 c0_i32_18
  v39

def k0_off24 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_3 : BitVec 32 := 4#32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v10 : BitVec 32 := Scalar.subi c4_i32_3 v9
  let v11 : BitVec 32 := Scalar.addi v2 v10
  let c4_i32_4 : BitVec 32 := 4#32
  let v12 : BitVec 32 := Scalar.remsi v11 c4_i32_4
  let c512_i32 : BitVec 32 := 512#32
  let v15 : BitVec 32 := Scalar.muli v12 c512_i32
  let v59 : Index := Scalar.indexCast v15
  let c0_39 : Index := 0#32
  ![v59.toNat, 0]
def k0_off25 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v7 : BitVec 1 := Scalar.cmpi .slt arg0 c8_i32
  let c0_i32 : BitVec 32 := 0#32
  let c7_i32 : BitVec 32 := 7#32
  let v8 : BitVec 32 := Scalar.subi arg0 c7_i32
  let v9 : BitVec 32 := Scalar.select v7 c0_i32 v8
  let v13 : BitVec 32 := Scalar.addi v2 v9
  let c4_i32_5 : BitVec 32 := 4#32
  let v14 : BitVec 32 := Scalar.remsi v13 c4_i32_5
  let c512_i32_6 : BitVec 32 := 512#32
  let v16 : BitVec 32 := Scalar.muli v14 c512_i32_6
  let c256_i32 : BitVec 32 := 256#32
  let v17 : BitVec 32 := Scalar.addi v16 c256_i32
  let v90 : Index := Scalar.indexCast v17
  let c0_62 : Index := 0#32
  ![v90.toNat, 0]
def k0_dev9 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_76 : BitVec 32 := 1#32
  let v110 : BitVec 32 := Scalar.muli v6 c1_i32_76
  let v111 : BitVec 32 := Scalar.addi c0_i32_77 v110
  v111.toNat
def k0_dev10 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_84 : BitVec 32 := 1#32
  let v120 : BitVec 32 := Scalar.muli v4 c1_i32_84
  let v121 : BitVec 32 := Scalar.addi c0_i32_85 v120
  v121.toNat
def k0_off26 (d0 : Dev nD) (c1_i32_67 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v104 : BitVec 32 := Scalar.addi v2 c1_i32_67
  let c4_i32_68 : BitVec 32 := 4#32
  let v105 : BitVec 32 := Scalar.remsi v104 c4_i32_68
  let c512_i32_93 : BitVec 32 := 512#32
  let v132 : BitVec 32 := Scalar.muli v105 c512_i32_93
  let v133 : Index := Scalar.indexCast v132
  let c0_94 : Index := 0#32
  ![v133.toNat, 0]
def k0_off27 (d0 : Dev nD) (c3_i32_71 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : BitVec 32 := Scalar.addi v2 c3_i32_71
  let c4_i32_72 : BitVec 32 := 4#32
  let v109 : BitVec 32 := Scalar.remsi v108 c4_i32_72
  let c512_i32_98 : BitVec 32 := 512#32
  let v137 : BitVec 32 := Scalar.muli v109 c512_i32_98
  let c256_i32_99 : BitVec 32 := 256#32
  let v138 : BitVec 32 := Scalar.addi v137 c256_i32_99
  let v139 : Index := Scalar.indexCast v138
  let c0_100 : Index := 0#32
  ![v139.toNat, 0]
def k0_dev11 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_143 : BitVec 32 := 1#32
  let v169 : BitVec 32 := Scalar.muli v6 c1_i32_143
  let v170 : BitVec 32 := Scalar.addi c0_i32_144 v169
  v170.toNat
def k0_dev12 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_152 : BitVec 32 := 1#32
  let v179 : BitVec 32 := Scalar.muli v4 c1_i32_152
  let v180 : BitVec 32 := Scalar.addi c0_i32_153 v179
  v180.toNat
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_160 : BitVec 32 := 512#32
  let v191 : BitVec 32 := Scalar.muli v2 c512_i32_160
  let v192 : Index := Scalar.indexCast v191
  let c0_161 : Index := 0#32
  ![v192.toNat, 0]
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_164 : BitVec 32 := 512#32
  let v196 : BitVec 32 := Scalar.muli v2 c512_i32_164
  let c256_i32_165 : BitVec 32 := 256#32
  let v197 : BitVec 32 := Scalar.addi v196 c256_i32_165
  let v198 : Index := Scalar.indexCast v197
  let c0_166 : Index := 0#32
  ![v198.toNat, 0]
def k0_dev13 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_209 : BitVec 32 := 1#32
  let v228 : BitVec 32 := Scalar.muli v6 c1_i32_209
  let v229 : BitVec 32 := Scalar.addi c0_i32_210 v228
  v229.toNat
def k0_dev14 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_217 : BitVec 32 := 1#32
  let v238 : BitVec 32 := Scalar.muli v4 c1_i32_217
  let v239 : BitVec 32 := Scalar.addi c0_i32_218 v238
  v239.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.select v0 arg0 c7_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S1024x1024 : Shape := ⟨2, ![1024, 1024]⟩
abbrev S2048x32 : Shape := ⟨2, ![2048, 32]⟩
abbrev S_ : Shape := ⟨0, ![]⟩
abbrev S2048 : Shape := ⟨1, ![2048]⟩
abbrev S2048x1x1 : Shape := ⟨3, ![2048, 1, 1]⟩
abbrev S2048x1024x1024 : Shape := ⟨3, ![2048, 1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x32, .bf16⟩
  | .hbm, ⟨2, _⟩ => ⟨S2048x1, .i32⟩
  | .hbm, ⟨3, _⟩ => ⟨S32x1024x1024, .bf16⟩
  | .hbm, ⟨4, _⟩ => ⟨S1024x1024, .bf16⟩
  | .hbm, ⟨5, _⟩ => ⟨S2048x1024, .f32⟩
  | .hbm, ⟨6, _⟩ => ⟨S1024x32, .f32⟩
  | .hbm, ⟨7, _⟩ => ⟨S2048x32, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x32, .f32⟩
  | .hbm, ⟨12, _⟩ => ⟨S2048x32, .f32⟩
  | .hbm, ⟨13, _⟩ => ⟨S2048x32, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x32, .f32⟩
  | .hbm, ⟨18, _⟩ => ⟨S2048x32, .f32⟩
  | .hbm, ⟨19, _⟩ => ⟨S1024x1024, .f32⟩
  | .hbm, ⟨20, _⟩ => ⟨S2048x1024, .f32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S2048x1, .f32⟩
  | .hbm, ⟨30, _⟩ => ⟨S32x1024x1024, .f32⟩
  | .hbm, ⟨31, _⟩ => ⟨S2048, .i32⟩
  | .hbm, ⟨32, _⟩ => ⟨S2048x1, .i32⟩
  | .hbm, ⟨33, _⟩ => ⟨S2048x1024x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Proof.Blocks.lean ====
/-
# Blocks of rows, slots of the communication buffer, and the memory steps on them

The kernel reads and writes the rows of its arrays in blocks of 256 (a half of a device's chunk of 512) and of
1024 (an expert's rows of the weight buffer), and the slots of its communication buffer.  Here: these rectangles,
what reading and writing them does to the contents a memref is owned at, and the load and store rules in terms of
`owns`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the certificate: the pipeline's own beside the rounds of the kernel's semaphores, whose duties are
    named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The program `p` of device `c`'s core, run to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q
theorem run_bind (c : Dev nD) {α β : Type} (p : Prog (TpuEff nD τ sig (Elt F) Λ₀ .tc) α) (k : α → Prog (TpuEff nD τ sig (Elt F) Λ₀ .tc) β) (Q : β → sProp 𝕄) :
    run c (p >>= k) Q = run c p (fun a => run c (k a) Q) := wp_bind _ _ _ _ _ _
theorem run_ret (c : Dev nD) {α : Type} (a : α) (Q : α → sProp 𝕄) : Q a ⊢ run (F := F) c (.ret a) Q := by
  unfold run; rw [wp_ret]; iintro H; imodintro; iexact H

/-- Device `c` holds the memref at contents `X`. -/
abbrev own (c : Dev nD) {sp : Space} {s : Shape} {e : EltTy} (m : Memref sig .tc sp s e) (q : PosShare TreeShare)
    (X : s.Idx → Elt F e) : sProp 𝕄 :=
  owns (Ix := Unit) (Name := ℕ) (U := UU) (Lvl := ℕ) (c : Thread nD τ) m q X

/-! ## Blocks of rows -/

/-- The `b`-th block of `h` rows of an array of `N` rows. -/
def rows (N h W b : ℕ) (hb : h * b + h ≤ N) : Rect ⟨2, ![N, W]⟩ :=
  Rect.unit (s := ⟨2, ![N, W]⟩) ![h * b, 0] ![h, W] (by
    intro a; fin_cases a
    · exact hb
    · show 0 + W ≤ W; omega)

theorem rows_disj {N h W b b' : ℕ} (hb : h * b + h ≤ N) (hb' : h * b' + h ≤ N) (hne : b ≠ b') (j : (⟨2, ![h, W]⟩ : Shape).Idx) :
    (rows N h W b hb).emb j ∉ (rows N h W b' hb').set := by
  intro hm
  rw [← Rect.map_emb_univ, Finset.mem_map] at hm
  obtain ⟨j', _, hj⟩ := hm
  have h0 : h * b' + 1 * (j' 0).val = h * b + 1 * (j 0).val :=
    congrArg (fun i : (⟨2, ![N, W]⟩ : Shape).Idx => (i 0).val) hj
  have l0 : (j 0).val < h := (j 0).isLt
  have l1 : (j' 0).val < h := (j' 0).isLt
  rcases Nat.lt_or_gt_of_ne hne with hlt | hlt
  · have : h * (b + 1) ≤ h * b' := Nat.mul_le_mul_left h hlt
    rw [Nat.mul_add] at this; omega
  · have : h * (b' + 1) ≤ h * b := Nat.mul_le_mul_left h hlt
    rw [Nat.mul_add] at this; omega

/-- The index `x` of the block at row `i` of it. -/
def inRows {h W : ℕ} (i : ℕ) (hi : i < h) (x : Fin W) : (⟨2, ![h, W]⟩ : Shape).Idx := fun a => match a with
  | ⟨0, _⟩ => (⟨i, hi⟩ : Fin h)
  | ⟨1, _⟩ => x

theorem rows_emb_inRows {N h W b : ℕ} (hb : h * b + h ≤ N) (i : (⟨2, ![N, W]⟩ : Shape).Idx) (hh : (i 0).val / h = b) (hpos : 0 < h) :
    (rows N h W b hb).emb (inRows ((i 0).val % h) (Nat.mod_lt _ hpos) ⟨(i 1).val, (i 1).isLt⟩) = i := by
  subst hh
  funext a
  refine Fin.ext ?_
  match a with
  | ⟨0, _⟩ => show h * ((i 0).val / h) + 1 * ((i 0).val % h) = (i 0).val; rw [Nat.one_mul]; exact Nat.div_add_mod _ _
  | ⟨1, _⟩ => show 0 + 1 * (i 1).val = (i 1).val; omega

/-- A block of rows of an array, and the array with it replaced. -/
def gblk (N h W b : ℕ) (hb : h * b + h ≤ N) {α : Type} (X : (⟨2, ![N, W]⟩ : Shape).Idx → α) : (⟨2, ![h, W]⟩ : Shape).Idx → α :=
  fun j => X ((rows N h W b hb).emb j)

def gset (N h W b : ℕ) (hb : h * b + h ≤ N) {α : Type} (X : (⟨2, ![N, W]⟩ : Shape).Idx → α) (w : (⟨2, ![h, W]⟩ : Shape).Idx → α) :
    (⟨2, ![N, W]⟩ : Shape).Idx → α := (rows N h W b hb).overlay X w

theorem gblk_gset {N h W b : ℕ} (hb : h * b + h ≤ N) {α : Type} (X : (⟨2, ![N, W]⟩ : Shape).Idx → α) (w : (⟨2, ![h, W]⟩ : Shape).Idx → α) :
    gblk N h W b hb (gset N h W b hb X w) = w := funext fun j => Rect.overlay_emb (rows N h W b hb) X w j

theorem gblk_gset_ne {N h W b b' : ℕ} (hb : h * b + h ≤ N) (hb' : h * b' + h ≤ N) (hne : b ≠ b') {α : Type}
    (X : (⟨2, ![N, W]⟩ : Shape).Idx → α) (w : (⟨2, ![h, W]⟩ : Shape).Idx → α) :
    gblk N h W b hb (gset N h W b' hb' X w) = gblk N h W b hb X :=
  funext fun j => Rect.overlay_of_not_mem (rows N h W b' hb') X w (rows_disj hb hb' hne j)

theorem le256 (b : Fin 8) : 256 * b.val + 256 ≤ 2048 := by have := b.isLt; omega
theorem le1024 (b : Fin 8) : 1024 * b.val + 1024 ≤ 8192 := by have := b.isLt; omega

/-- Block `b` of 256 rows of an array of 2048 rows, and the array with it replaced. -/
def blk {W : ℕ} {α : Type} (b : Fin 8) (X : (⟨2, ![2048, W]⟩ : Shape).Idx → α) : (⟨2, ![256, W]⟩ : Shape).Idx → α :=
  gblk 2048 256 W b (le256 b) X

def setBlk {W : ℕ} {α : Type} (b : Fin 8) (X : (⟨2, ![2048, W]⟩ : Shape).Idx → α) (w : (⟨2, ![256, W]⟩ : Shape).Idx → α) :
    (⟨2, ![2048, W]⟩ : Shape).Idx → α := gset 2048 256 W b (le256 b) X w

theorem blk_setBlk {W : ℕ} {α : Type} (b : Fin 8) (X : (⟨2, ![2048, W]⟩ : Shape).Idx → α) (w) : blk b (setBlk b X w) = w :=
  gblk_gset _ X w

theorem blk_setBlk_ne {W : ℕ} {α : Type} {b b' : Fin 8} (h : b ≠ b') (X : (⟨2, ![2048, W]⟩ : Shape).Idx → α) (w) :
    blk b (setBlk b' X w) = blk b X :=
  gblk_gset_ne _ _ (fun e => h (Fin.ext e)) X w

/-- Every index of an array of 2048 rows lies in one of its blocks. -/
theorem blk_ext {W : ℕ} {α : Type} {X Y : (⟨2, ![2048, W]⟩ : Shape).Idx → α} (h : ∀ b, blk b X = blk b Y) : X = Y := by
  funext i
  have hi : (i 0).val < 2048 := (i 0).isLt
  have hb : (i 0).val / 256 < 8 := by omega
  have e := congrFun (h ⟨(i 0).val / 256, hb⟩) (inRows ((i 0).val % 256) (Nat.mod_lt _ (by decide)) ⟨(i 1).val, (i 1).isLt⟩)
  unfold blk gblk at e
  rw [rows_emb_inRows _ i rfl (by decide)] at e
  exact e

/-- Reading through the rectangle the program names is reading the block. -/
theorem rd_blk {W : ℕ} {α : Type} (b : Fin 8) (X : (⟨2, ![2048, W]⟩ : Shape).Idx → α) {off : Fin 2 → ℕ} (h : off = ![256 * b.val, 0])
    (inb) : (fun x => X ((Rect.unit (s := ⟨2, ![2048, W]⟩) off ![256, W] inb).toLoadRect.idx x)) = blk b X := by
  subst h; rfl

theorem wr_blk {W : ℕ} {α : Type} (b : Fin 8) (X : (⟨2, ![2048, W]⟩ : Shape).Idx → α) {off : Fin 2 → ℕ} (h : off = ![256 * b.val, 0])
    (inb) (w) : (Rect.unit (s := ⟨2, ![2048, W]⟩) off ![256, W] inb).overlay X w = setBlk b X w := by
  subst h; rfl

/-- Block `b` of 1024 rows of the weight buffer, and the buffer with it replaced. -/
def wblk {α : Type} (b : Fin 8) (X : S8192x1024.Idx → α) : S1024x1024.Idx → α := gblk 8192 1024 1024 b (le1024 b) X

def setW {α : Type} (b : Fin 8) (X : S8192x1024.Idx → α) (w : S1024x1024.Idx → α) : S8192x1024.Idx → α :=
  gset 8192 1024 1024 b (le1024 b) X w

theorem wblk_setW {α : Type} (b : Fin 8) (X : S8192x1024.Idx → α) (w) : wblk b (setW b X w) = w :=
  gblk_gset _ X w

theorem wblk_setW_ne {α : Type} {b b' : Fin 8} (h : b ≠ b') (X : S8192x1024.Idx → α) (w) : wblk b (setW b' X w) = wblk b X :=
  gblk_gset_ne _ _ (fun e => h (Fin.ext e)) X w

/-- Every index of the weight buffer lies in one of its blocks. -/
theorem w_ext {α : Type} {X Y : S8192x1024.Idx → α} (h : ∀ b, wblk b X = wblk b Y) : X = Y := by
  funext i
  have hi : (i 0).val < 8192 := (i 0).isLt
  have hb : (i 0).val / 1024 < 8 := by omega
  have e := congrFun (h ⟨(i 0).val / 1024, hb⟩) (inRows ((i 0).val % 1024) (Nat.mod_lt _ (by decide)) ⟨(i 1).val, (i 1).isLt⟩)
  unfold wblk gblk at e
  rw [rows_emb_inRows _ i rfl (by decide)] at e
  exact e

theorem rd_wblk {α : Type} (b : Fin 8) (X : S8192x1024.Idx → α) {off : Fin 2 → ℕ} (h : off = ![1024 * b.val, 0])
    (inb) : (fun x => X ((Rect.unit (s := S8192x1024) off S1024x1024.size inb).toLoadRect.idx x)) = wblk b X := by
  subst h; rfl

theorem wr_wblk {α : Type} (b : Fin 8) (X : S8192x1024.Idx → α) {off : Fin 2 → ℕ} (h : off = ![1024 * b.val, 0])
    (inb) (w) : (Rect.unit (s := S8192x1024) off S1024x1024.size inb).overlay X w = setW b X w := by
  subst h; rfl

/-- Reading and writing the whole of an array. -/
theorem rd_all {s : Shape} {α : Type} (X : s.Idx → α) {off : Fin s.rank → ℕ} (h : off = fun _ => 0) (inb) :
    (fun x => X ((Rect.unit (s := s) off s.size inb).toLoadRect.idx x)) = X := by
  subst h
  funext x
  refine congrArg X (funext fun a => Fin.ext ?_)
  show 0 + 1 * (x a).val = (x a).val
  omega

theorem wr_all {s : Shape} {α : Type} (X w : s.Idx → α) {off : Fin s.rank → ℕ} (h : off = fun _ => 0) (inb) :
    (Rect.unit (s := s) off s.size inb).overlay X w = w := by
  subst h
  funext x
  have e : (Rect.unit (s := s) (fun _ => 0) s.size inb).emb x = x := funext fun a => Fin.ext (by
    show 0 + 1 * (x a).val = (x a).val
    omega)
  have := Rect.overlay_emb (Rect.unit (s := s) (fun _ => 0) s.size inb) X w x
  rw [e] at this
  exact this

theorem z2 : (![0, 0] : Fin 2 → ℕ) = fun _ => 0 := by funext a; fin_cases a <;> rfl
theorem z3 : (![0, 0, 0] : Fin 3 → ℕ) = fun _ => 0 := by funext a; fin_cases a <;> rfl

/-! ## Loads and stores of an owned memref -/

theorem ld {c : Dev nD} {cs : CoreSpace} {s : Shape} {e : EltTy} {m : Memref sig .tc cs s e} {r : LoadRect s} {hl : m.view.LoadsAt r}
    {α : Type} {k : (r.shape.Idx → Elt F e) → Prog (TpuEff nD τ sig (Elt F) Λ₀ .tc) α} {Q : α → sProp 𝕄} {q : PosShare TreeShare}
    {X : s.Idx → Elt F e} {v : r.shape.Idx → Elt F e} (hv : (fun x => X (r.idx x)) = v) :
    own (F := F) c m q X ⊢ iprop((own c m q X -∗ run c (k v) Q) -∗ run c (.op (.load m r hl) k) Q) := by
  subst hv
  unfold own owns
  iintro ⟨%g, %hg, H⟩ Hk
  iapply (wp_load 𝒱₀ (c : Thread nD τ) none Set.univ (m := m) (S := m.view.set) (m.view.setOn_subset_set _)) $$ H
  iintro H
  have e1 : m.view.readAt (Elt F) r g = fun x => X (r.idx x) := funext fun x => by rw [View.readAt_apply, hg]
  rw [e1]
  iapply Hk
  iexists g
  isplitr; · ipureintro; exact hg
  iexact H

theorem st {c : Dev nD} {cs : CoreSpace} {s : Shape} {e : EltTy} {m : Memref sig .tc cs s e} {r : Rect s} {w : r.shape.Idx → Elt F e}
    {hx : (m.access r).Stores Finset.univ} {hm}
    {α : Type} {k : PUnit → Prog (TpuEff nD τ sig (Elt F) Λ₀ .tc) α} {Q : α → sProp 𝕄}
    {X Y : s.Idx → Elt F e} (hv : r.overlay X w = Y) :
    own (F := F) c m fullShare X ⊢ iprop((own c m fullShare Y -∗ run c (k ⟨⟩) Q) -∗ run c (.op (.store m r w Finset.univ hx hm) k) Q) := by
  subst hv
  unfold own owns
  iintro ⟨%g, %hg, H⟩ Hk
  iapply (wp_store 𝒱₀ (c : Thread nD τ) none Set.univ (m := m) (r := r) (Mk := Finset.univ) (S := m.view.set)
    (((m.access r).setOn_subset_set _).trans (m.view.set_slice_subset r))) $$ H
  iintro H
  iapply Hk
  iexists ((m.access r).write (Elt F) g w Finset.univ)
  isplitr
  · ipureintro
    funext y
    by_cases hy : y ∈ r.set
    · rw [← Rect.map_emb_univ, Finset.mem_map] at hy
      obtain ⟨x, _, rfl⟩ := hy
      rw [Rect.overlay_emb]
      exact View.read_slice_write_emb r g w (Finset.mem_univ x)
    · rw [Rect.overlay_of_not_mem _ _ _ hy, ← hg]
      exact View.read_slice_write_of_not_mem r g w _ (by rw [Rect.map_emb_univ]; exact hy)
  iexact H

/-! ## Slots of the communication buffer -/

theorem slot_inb (i : Fin 20) : ∀ a, (![i.val, 0, 0] : Fin 3 → ℕ) a + S1x256x1024.size a ≤ S20x256x1024.size a := by
  intro a; have := i.isLt; fin_cases a <;> simp <;> omega

/-- Slot `i` of the communication buffer. -/
def slotM (i : Fin 20) : Memref sig .tc .vmem S1x256x1024 .bf16 :=
  (Memref.whole cc0_scratch0).slice (Rect.unit (s := S20x256x1024) ![i.val, 0, 0] S1x256x1024.size (slot_inb i)) (fun _ => rfl)

theorem ld_slot {c : Dev nD} (i : Fin 20) {off : Fin 3 → ℕ} {inb} {hl} (hoff : off = ![i.val, 0, 0])
    {α : Type} {k : (S1x256x1024.Idx → Elt F .bf16) → Prog (TpuEff nD τ sig (Elt F) Λ₀ .tc) α} {Q : α → sProp 𝕄} {q : PosShare TreeShare}
    {X : S1x256x1024.Idx → Elt F .bf16} :
    own (F := F) c (slotM i) q X ⊢ iprop((own c (slotM i) q X -∗ run c (k X) Q)
      -∗ run c (.op (.load (Memref.whole cc0_scratch0) (Rect.unit (s := S20x256x1024) off S1x256x1024.size inb).toLoadRect hl) k) Q) := by
  subst hoff
  unfold own owns slotM
  iintro ⟨%g, %hg, H⟩ Hk
  iapply (wp_load_rect 𝒱₀ (c : Thread nD τ) none Set.univ (m := Memref.whole cc0_scratch0)
    (r := Rect.unit (s := S20x256x1024) ![i.val, 0, 0] S1x256x1024.size (slot_inb i)) (S := ((Memref.whole cc0_scratch0).access (Rect.unit (s := S20x256x1024) ![i.val, 0, 0] S1x256x1024.size (slot_inb i))).set) subset_rfl) $$ H
  iintro H
  have e1 : ((Memref.whole cc0_scratch0).access (Rect.unit (s := S20x256x1024) ![i.val, 0, 0] S1x256x1024.size (slot_inb i))).read (Elt F) g = X := hg
  rw [e1]
  iapply Hk
  iexists g
  isplitr; · ipureintro; exact hg
  iexact H

theorem st_slot {c : Dev nD} (i : Fin 20) {off : Fin 3 → ℕ} {inb} {w} {hx} {hm} (hoff : off = ![i.val, 0, 0])
    {α : Type} {k : PUnit → Prog (TpuEff nD τ sig (Elt F) Λ₀ .tc) α} {Q : α → sProp 𝕄}
    {X : S1x256x1024.Idx → Elt F .bf16} :
    own (F := F) c (slotM i) fullShare X ⊢ iprop((own c (slotM i) fullShare (show S1x256x1024.Idx → Elt F .bf16 from w) -∗ run c (k ⟨⟩) Q)
      -∗ run c (.op (.store (Memref.whole cc0_scratch0) (Rect.unit (s := S20x256x1024) off S1x256x1024.size inb) w Finset.univ hx hm) k) Q) := by
  subst hoff
  unfold own owns slotM
  iintro ⟨%g, %hg, H⟩ Hk
  iapply (wp_store 𝒱₀ (c : Thread nD τ) none Set.univ (m := Memref.whole cc0_scratch0)
    (r := Rect.unit (s := S20x256x1024) ![i.val, 0, 0] S1x256x1024.size (slot_inb i)) (Mk := Finset.univ) (S := ((Memref.whole cc0_scratch0).access (Rect.unit (s := S20x256x1024) ![i.val, 0, 0] S1x256x1024.size (slot_inb i))).set)
    (View.setOn_subset_set _ _)) $$ H
  iintro H
  iapply Hk
  iexists (((Memref.whole cc0_scratch0).access (Rect.unit (s := S20x256x1024) ![i.val, 0, 0] S1x256x1024.size (slot_inb i))).write (Elt F) g w Finset.univ)
  isplitr
  · ipureintro
    exact View.read_write_univ (v := ((Memref.whole cc0_scratch0).access (Rect.unit (s := S20x256x1024) ![i.val, 0, 0] S1x256x1024.size (slot_inb i)))) g w
  iexact H

end Cert.Moe

end
-- ==== Proof.Values.lean ====
/-
# What the kernel computes, device by device

Device `c`'s pass `q` works on chunk `c - q` of the tokens in the upper half (`T`, travelling to the right) and on
chunk `c + q` in the lower half (`B`, travelling to the left).  Pass 0 accumulates the device's experts one grid
point each; passes 1, 2, 3 are each one product against the eight experts' weights stacked.  `sdT k`, `sdB k` are what the `k`-th
transfer to the right and to the left carries.
-/
module

public import proofs.«01_k».proof.Proof.Blocks

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel's inputs as the devices' staging buffers hold them: the tokens, the router's weights, the routes, the
    device's experts one by one, the shared expert. -/
structure Ins (F : FTy → Type) where
  x : Dev nD → S2048x1024.Idx → Elt F .bf16
  rw : Dev nD → S1024x32.Idx → Elt F .bf16
  rt : Dev nD → S2048x1.Idx → Elt F .i32
  w : Dev nD → Fin 8 → S1x1024x1024.Idx → Elt F .bf16
  sw : Dev nD → S1024x1024.Idx → Elt F .bf16

/-! ## The ring -/

def nxt (c : Dev nD) : Dev nD := ⟨(c.val + 1) % 4, Nat.mod_lt _ (by decide)⟩
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- The blocks of rows of pass `q`. -/
def bT (q : ℕ) (c : Dev nD) : Fin 8 := ⟨2 * ((c.val + 4 - q) % 4), by have := Nat.mod_lt (c.val + 4 - q) (by decide : 4 > 0); omega⟩
def bB (q : ℕ) (c : Dev nD) : Fin 8 := ⟨2 * ((c.val + q) % 4) + 1, by have := Nat.mod_lt (c.val + q) (by decide : 4 > 0); omega⟩

theorem bT_ne_bB (q q' : ℕ) (c c' : Dev nD) : bT q c ≠ bB q' c' := fun h => by
  have := congrArg Fin.val h; simp only [bT, bB] at this; omega
theorem bB_ne_bT (q q' : ℕ) (c c' : Dev nD) : bB q c ≠ bT q' c' := fun h => bT_ne_bB _ _ _ _ h.symm

/-- The words the program computes with: the device's place, the lane numbers. -/
def wpos (c : Dev nD) : BitVec 32 := Scalar.remsi (Scalar.divsi (Dev.word c) 1#32) 4#32
def lanes : IVec S256x32 32 := iota .tc S256x32 32 [1] iota_S256x32_d1_w32
def warg (s : ℕ) : BitVec 32 := BitVec.ofNat 32 s
def wexp (c : Dev nD) (s : ℕ) : BitVec 32 := Scalar.addi (Scalar.muli (wpos c) 8#32) (warg s)

/-! ## One fused pass, on its rows of the probabilities, the routes and the tokens and the stacked weights -/

def fusT (v2 : BitVec 32) (p : Vec F S256x32 .f32) (r : Vec F S256x1 .i32) (x : Vec F S256x1024 .bf16) (e : Vec F S8192x1024 .bf16) :
    FVec F S256x1024 .bf16 :=
  k0_pay22 (k0_pay8 v2 lanes p r x) (k0_pay11 (k0_pay9 v2 lanes p r) (k0_pay10 x)) (k0_pay12 v2 lanes p r x)
    (k0_pay14 (k0_pay13 v2 lanes p r) x) (k0_pay15 v2 lanes p r x)
    (k0_pay19 (k0_pay16 v2 lanes p) (k0_pay17 r) (k0_pay18 v2) x) (k0_pay20 v2 lanes p r x)
    (Scalar.addi (Scalar.muli v2 8#32) 7#32) (k0_pay21 v2 lanes p) r x e

def fusB (v2 : BitVec 32) (p : Vec F S256x32 .f32) (r : Vec F S256x1 .i32) (x : Vec F S256x1024 .bf16) (e : Vec F S8192x1024 .bf16) :
    FVec F S256x1024 .bf16 :=
  k0_pay34 v2 lanes (k0_pay23 v2 lanes p r x) (k0_pay24 v2 lanes 8#32 p r x) (k0_pay27 (k0_pay25 v2 lanes p r) (k0_pay26 x))
    (k0_pay28 v2 lanes p r x) (k0_pay30 (k0_pay29 v2 lanes p r) x) (k0_pay31 v2 lanes p r x)
    (k0_pay32 v2 lanes p) (k0_pay33 v2 r) x p r x e

variable (I : Ins F)

/-- The router's probabilities, and expert `s` as the weight buffer keeps it. -/
def probs (c : Dev nD) : Vec F S2048x32 .f32 := k0_pay52 (I.x c) (I.rw c)
def fin8 (s : ℕ) : Fin 8 := ⟨s % 8, Nat.mod_lt _ (by decide)⟩
def wj (c : Dev nD) (s : ℕ) : FVec F S1024x1024 .bf16 := k0_pay5 (I.w c (fin8 s))

/-- Expert `s` of the device on its rows of the first pass, and the sum up to it. -/
def termT (c : Dev nD) (s : ℕ) : FVec F S256x1024 .f32 :=
  k0_pay6 (warg s) (wpos c) lanes (wj I c s) (blk (bT 0 c) (probs I c)) (blk (bT 0 c) (I.rt c)) (blk (bT 0 c) (I.x c))
def coefB (c : Dev nD) (s : ℕ) : Vec F S256x32 .f32 := k0_pay7 (warg s) (wpos c) lanes (blk (bB 0 c) (probs I c))

def accT (c : Dev nD) : ℕ → FVec F S256x1024 .bf16
  | 0 => k0_pay54 (termT I c 0)
  | s + 1 => k0_pay56 (termT I c (s + 1)) (accT c s)
def accB (c : Dev nD) : ℕ → FVec F S256x1024 .bf16
  | 0 => k0_pay55 (wexp c 0) (wj I c 0) (coefB I c 0) (blk (bB 0 c) (I.rt c)) (blk (bB 0 c) (I.x c))
  | s + 1 => k0_pay57 (wexp c (s + 1)) (wj I c (s + 1)) (coefB I c (s + 1)) (blk (bB 0 c) (I.rt c)) (blk (bB 0 c) (I.x c)) (accB c s)

/-- The eight experts' weights stacked. -/
def stack (c : Dev nD) : Vec F S8192x1024 .bf16 := fun i =>
  wj I c ((i 0).val / 1024) (inRows ((i 0).val % 1024) (Nat.mod_lt _ (by decide)) ⟨(i 1).val, (i 1).isLt⟩)

/-- The weight buffer holds the first `n` experts. -/
def Stacked (c : Dev nD) (n : ℕ) (E : S8192x1024.Idx → Elt F .bf16) : Prop := ∀ b : Fin 8, b.val < n → wblk b E = wj I c b.val

def passT (c : Dev nD) (q : ℕ) : FVec F S256x1024 .bf16 :=
  fusT (wpos c) (blk (bT q c) (probs I c)) (blk (bT q c) (I.rt c)) (blk (bT q c) (I.x c)) (stack I c)
def passB (c : Dev nD) (q : ℕ) : FVec F S256x1024 .bf16 :=
  fusB (wpos c) (blk (bB q c) (probs I c)) (blk (bB q c) (I.rt c)) (blk (bB q c) (I.x c)) (stack I c)

/-! ## What the transfers carry -/

/-- Transfer `k` to the right, from device `c`. -/
def sdT : ℕ → Dev nD → FVec F S1x256x1024 .bf16
  | 0, c => k0_pay35 (accT I c 7)
  | 1, c => k0_pay37 (sdT 0 (prv c)) (passT I c 1)
  | 2, c => k0_pay39 (sdT 1 (prv c)) (passT I c 2)
  | 3, c => k0_pay43 (k0_pay42 (I.sw c) (sdT 2 (prv c)) (passT I c 3) (blk (bT 3 c) (I.x c)))
  | k + 4, c => sdT (k + 3) (prv c)
/-- Transfer `k` to the left. -/
def sdB : ℕ → Dev nD → FVec F S1x256x1024 .bf16
  | 0, c => k0_pay36 (accB I c 7)
  | 1, c => k0_pay1 (k0_pay38 (sdB 0 (nxt c))) (passB I c 1)
  | 2, c => k0_pay2 (k0_pay40 (sdB 1 (nxt c))) (passB I c 2)
  | 3, c => k0_pay45 (k0_pay44 (k0_pay41 (I.sw c)) (sdB 2 (nxt c)) (passB I c 3) (blk (bB 3 c) (I.x c)))
  | k + 4, c => sdB (k + 3) (nxt c)

/-! ## The result -/

def finT (c : Dev nD) : ℕ → FVec F S256x1024 .bf16
  | 0 => k0_pay48 (sdT I 3 (prv c))
  | 1 => k0_pay50 (sdT I 4 (prv c))
  | 2 => k0_pay3 (sdT I 5 (prv c))
  | _ => k0_pay46 (sdT I 3 c)
def finB (c : Dev nD) : ℕ → FVec F S256x1024 .bf16
  | 0 => k0_pay49 (sdB I 3 (nxt c))
  | 1 => k0_pay51 (sdB I 4 (nxt c))
  | 2 => k0_pay4 (sdB I 5 (nxt c))
  | _ => k0_pay47 (sdB I 3 c)

def finBlk (c : Dev nD) (b : ℕ) : FVec F S256x1024 .bf16 :=
  if b % 2 = 0 then finT I c ((c.val + 4 - b / 2) % 4) else finB I c ((b / 2 + 4 - c.val) % 4)

/-- Device `c`'s result. -/
def result (c : Dev nD) : S2048x1024.Idx → Elt F .bf16 := fun i =>
  finBlk I c ((i 0).val / 256) (inRows ((i 0).val % 256) (Nat.mod_lt _ (by decide)) ⟨(i 1).val, (i 1).isLt⟩)

theorem blk_result (c : Dev nD) (b : Fin 8) : blk b (result I c) = finBlk I c b.val := by
  funext j
  have l0 : (j 0).val < 256 := (j 0).isLt
  have h0 : (((rows 2048 256 1024 b (le256 b)).emb j) 0).val = 256 * b.val + 1 * (j 0).val := rfl
  have h1 : (((rows 2048 256 1024 b (le256 b)).emb j) 1).val = 0 + 1 * (j 1).val := rfl
  show finBlk I c ((((rows 2048 256 1024 b (le256 b)).emb j) 0).val / 256) _ = _
  have e1 : (((rows 2048 256 1024 b (le256 b)).emb j) 0).val / 256 = b.val := by rw [h0]; omega
  rw [e1]
  refine congrArg _ (funext fun a => Fin.ext ?_)
  match a with
  | ⟨0, _⟩ => show (((rows 2048 256 1024 b (le256 b)).emb j) 0).val % 256 = (j 0).val; rw [h0]; omega
  | ⟨1, _⟩ => show (((rows 2048 256 1024 b (le256 b)).emb j) 1).val = (j 1).val; rw [h1]; omega

theorem wblk_stack (c : Dev nD) (b : Fin 8) : wblk b (stack I c) = wj I c b.val := by
  funext j
  have l0 : (j 0).val < 1024 := (j 0).isLt
  have h0 : (((rows 8192 1024 1024 b (le1024 b)).emb j) 0).val = 1024 * b.val + 1 * (j 0).val := rfl
  have h1 : (((rows 8192 1024 1024 b (le1024 b)).emb j) 1).val = 0 + 1 * (j 1).val := rfl
  show wj I c ((((rows 8192 1024 1024 b (le1024 b)).emb j) 0).val / 1024) _ = _
  have e1 : (((rows 8192 1024 1024 b (le1024 b)).emb j) 0).val / 1024 = b.val := by rw [h0]; omega
  rw [e1]
  refine congrArg _ (funext fun a => Fin.ext ?_)
  match a with
  | ⟨0, _⟩ => show (((rows 8192 1024 1024 b (le1024 b)).emb j) 0).val % 1024 = (j 0).val; rw [h0]; omega
  | ⟨1, _⟩ => show (((rows 8192 1024 1024 b (le1024 b)).emb j) 1).val = (j 1).val; rw [h1]; omega

theorem stacked_eq {c : Dev nD} {E : S8192x1024.Idx → Elt F .bf16} (h : Stacked I c 8 E) : E = stack I c :=
  w_ext fun b => (h b b.isLt).trans (wblk_stack I c b).symm

theorem stacked_step {c : Dev nD} {n : ℕ} (hn : n < 8) {E : S8192x1024.Idx → Elt F .bf16} (h : Stacked I c n E) :
    Stacked I c (n + 1) (setW ⟨n, hn⟩ E (wj I c n)) := by
  intro b hb
  by_cases e : b = ⟨n, hn⟩
  · subst e; exact wblk_setW _ _ _
  · rw [wblk_setW_ne e]
    exact h b (by have : b.val ≠ n := fun h' => e (Fin.ext h'); omega)

/-- The eight blocks the last point leaves make the result. -/
theorem result_ext {c : Dev nD} {X : S2048x1024.Idx → Elt F .bf16} (hT : ∀ q < 4, blk (bT q c) X = finT I c q)
    (hB : ∀ q < 4, blk (bB q c) X = finB I c q) : X = result I c := by
  refine blk_ext fun b => ?_
  rw [blk_result]; unfold finBlk
  have hc : c.val < 4 := c.isLt
  have hb := b.isLt
  split
  · have hq : (c.val + 4 - b.val / 2) % 4 < 4 := Nat.mod_lt _ (by decide)
    rw [← hT _ hq]; congr 1; apply Fin.ext; simp only [bT]; omega
  · have hq : (b.val / 2 + 4 - c.val) % 4 < 4 := Nat.mod_lt _ (by decide)
    rw [← hB _ hq]; congr 1; apply Fin.ext; simp only [bB]; omega

/-! ## Where the program reads and writes -/

/-- The pass of a grid point. -/
def pass (i : grid0.Coords) : ℕ := (i 0).val - 7

theorem off2 : ∀ (i : grid0.Coords) (d : Dev nD), k0_off2 i d = ![256 * (bT (pass i) d).val, 0] := by decide +kernel
theorem off3 : ∀ (i : grid0.Coords) (d : Dev nD), k0_off3 i d = ![256 * (bT (pass i) d).val, 0] := by decide +kernel
theorem off4 : ∀ (i : grid0.Coords) (d : Dev nD), k0_off4 i d = ![256 * (bT (pass i) d).val, 0] := by decide +kernel
theorem off8 : ∀ (i : grid0.Coords) (d : Dev nD), k0_off8 i d = ![256 * (bT (pass i) d).val, 0] := by decide +kernel
theorem off10 : ∀ (i : grid0.Coords) (d : Dev nD), k0_off10 i d = ![256 * (bT (pass i) d).val, 0] := by decide +kernel
theorem off12 : ∀ (i : grid0.Coords) (d : Dev nD), k0_off12 i d = ![256 * (bT (pass i) d).val, 0] := by decide +kernel
theorem off13 : ∀ (i : grid0.Coords) (d : Dev nD), k0_off13 i d = ![256 * (bT (pass i) d).val, 0] := by decide +kernel
theorem off14 : ∀ (i : grid0.Coords) (d : Dev nD), k0_off14 i d = ![256 * (bT (pass i) d).val, 0] := by decide +kernel
theorem off18 : ∀ (i : grid0.Coords) (d : Dev nD), k0_off18 i d = ![256 * (bT (pass i) d).val, 0] := by decide +kernel
theorem off20 : ∀ (i : grid0.Coords) (d : Dev nD), k0_off20 i d = ![256 * (bT (pass i) d).val, 0] := by decide +kernel
theorem off22 : ∀ (i : grid0.Coords) (d : Dev nD), k0_off22 i d = ![256 * (bT (pass i) d).val, 0] := by decide +kernel
theorem off24 : ∀ (i : grid0.Coords) (d : Dev nD), k0_off24 i d = ![256 * (bT (pass i) d).val, 0] := by decide +kernel
theorem off5 : ∀ (i : grid0.Coords) (d : Dev nD), k0_off5 i d = ![256 * (bB (pass i) d).val, 0] := by decide +kernel
theorem off6 : ∀ (i : grid0.Coords) (d : Dev nD), k0_off6 i d = ![256 * (bB (pass i) d).val, 0] := by decide +kernel
theorem off7 : ∀ (i : grid0.Coords) (d : Dev nD), k0_off7 i d = ![256 * (bB (pass i) d).val, 0] := by decide +kernel
theorem off9 : ∀ (i : grid0.Coords) (d : Dev nD), k0_off9 i d = ![256 * (bB (pass i) d).val, 0] := by decide +kernel
theorem off11 : ∀ (i : grid0.Coords) (d : Dev nD), k0_off11 i d = ![256 * (bB (pass i) d).val, 0] := by decide +kernel
theorem off15 : ∀ (i : grid0.Coords) (d : Dev nD), k0_off15 i d = ![256 * (bB (pass i) d).val, 0] := by decide +kernel
theorem off16 : ∀ (i : grid0.Coords) (d : Dev nD), k0_off16 i d = ![256 * (bB (pass i) d).val, 0] := by decide +kernel
theorem off17 : ∀ (i : grid0.Coords) (d : Dev nD), k0_off17 i d = ![256 * (bB (pass i) d).val, 0] := by decide +kernel
theorem off19 : ∀ (i : grid0.Coords) (d : Dev nD), k0_off19 i d = ![256 * (bB (pass i) d).val, 0] := by decide +kernel
theorem off21 : ∀ (i : grid0.Coords) (d : Dev nD), k0_off21 i d = ![256 * (bB (pass i) d).val, 0] := by decide +kernel
theorem off23 : ∀ (i : grid0.Coords) (d : Dev nD), k0_off23 i d = ![256 * (bB (pass i) d).val, 0] := by decide +kernel
theorem off25 : ∀ (i : grid0.Coords) (d : Dev nD), k0_off25 i d = ![256 * (bB (pass i) d).val, 0] := by decide +kernel
theorem off28 : ∀ d : Dev nD, k0_off28 d = ![256 * (bT 0 d).val, 0] := by decide +kernel
theorem off29 : ∀ d : Dev nD, k0_off29 d = ![256 * (bB 0 d).val, 0] := by decide +kernel
theorem off26 : ∀ (d : Dev nD) (r : Fin 3), k0_off26 d (BitVec.ofNat 32 (1 + r.val)) = ![256 * (bT (3 - r.val) d).val, 0] := by decide +kernel
theorem off27 : ∀ (d : Dev nD) (r : Fin 3), k0_off27 d (BitVec.ofNat 32 (1 + r.val)) = ![256 * (bB (1 + r.val) d).val, 0] := by decide +kernel

end Cert.Moe

end
-- ==== Proof.Protocol.lean ====
/-
# The protocol of the ring

Transfers 0 to 5 go right, to `nxt`, and 6 to 11 left, to `prv`; each has its own send and receive semaphore, its own
source slot and its own landing slot, and runs once.

* The barrier semaphore of device `d` receives one unit from each neighbour and is waited on once, for both.  With the unit
  of `nxt d` come the landing slots of `nxt d` for the transfers to the right, with that of `prv d` the landing slots of
  `prv d` for the transfers to the left: a device writes into a neighbour's slots after that neighbour has entered the kernel.
* Transfer `k` is issued by `c` at its source slot, holding `Sd k c`; the send semaphore returns half of the source slot
  to `c`, the receive semaphore of the destination gives its landing slot with `Sd k` of the device it came from.
* A device waits for its send semaphores, then for the receive semaphore of the same transfer; what it still owes then
  are later transfers: the levels are 0 for sends (and the pipeline's own), 1 for the barrier, 2 and up for the receives in order.
-/
module

public import proofs.«01_k».proof.Proof.Values
public import Idealize.ShloMosaic.Lib.ViewIndex

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores -/

abbrev barS : Sem sig := (SemArray.scalar (sig.barrier 0 rfl) : Sems sig S_).sem
def sndQ (k : Fin 12) : DmaSem sig := ⟨7 + k.val, by have := k.isLt; show 7 + k.val < 31; omega⟩
def rcvQ (k : Fin 12) : DmaSem sig := ⟨19 + k.val, by have := k.isLt; show 19 + k.val < 31; omega⟩

abbrev barCell (c : Dev nD) : GSem nD τ sig := ((c : Thread nD τ), .reg barS)
abbrev sndCell (c : Dev nD) (k : Fin 12) : GSem nD τ sig := ((c : Thread nD τ), .dma (sndQ k))
abbrev rcvCell (c : Dev nD) (k : Fin 12) : GSem nD τ sig := ((c : Thread nD τ), .dma (rcvQ k))

/-- The 25 semaphores of a device: the barrier's, the sends', the receives'. -/
def csem (j : Fin 25) : SemLoc sig :=
  if h : j.val = 0 then .reg barS else .dma ⟨6 + j.val, by have := j.isLt; show 6 + j.val < 31; omega⟩
abbrev kcell (ck : Dev nD × Fin 25) : GSem nD τ sig := ((ck.1 : Thread nD τ), csem ck.2)
def jS (k : Fin 12) : Fin 25 := ⟨1 + k.val, by omega⟩
def jR (k : Fin 12) : Fin 25 := ⟨13 + k.val, by omega⟩
theorem csem_bar : csem 0 = .reg barS := rfl
theorem csem_snd (k : Fin 12) : csem (jS k) = .dma (sndQ k) := by
  unfold csem jS; rw [dif_neg (by simp)]; exact congrArg SemLoc.dma (Fin.ext (by simp only [sndQ]; omega))
theorem csem_rcv (k : Fin 12) : csem (jR k) = .dma (rcvQ k) := by
  unfold csem jR; rw [dif_neg (by simp)]; exact congrArg SemLoc.dma (Fin.ext (by simp only [rcvQ]; omega))

/-! ## Slots -/

def srcI (k : Fin 12) : Fin 20 := (![0, 1, 2, 6, 7, 8, 10, 11, 12, 16, 17, 18] : Fin 12 → Fin 20) k
def dstI (k : Fin 12) : Fin 20 := (![3, 4, 5, 7, 8, 9, 13, 14, 15, 17, 18, 19] : Fin 12 → Fin 20) k
/-- Where transfer `k` of device `c` goes, and where the one it receives comes from. -/
def dest (k : Fin 12) (c : Dev nD) : Dev nD := if k.val < 6 then nxt c else prv c
def frm (k : Fin 12) (c : Dev nD) : Dev nD := if k.val < 6 then prv c else nxt c
theorem frm_dest (k : Fin 12) (c : Dev nD) : frm k (dest k c) = c := by
  unfold frm dest; split
  · exact prv_nxt c
  · exact nxt_prv c
theorem dest_frm (k : Fin 12) (c : Dev nD) : dest k (frm k c) = c := by
  unfold frm dest; split
  · exact nxt_prv c
  · exact prv_nxt c

/-- A slot as the transfers address it. -/
def sqM (i : Fin 20) : Memref sig .tc .vmem S256x1024 .bf16 := (slotM i).squeeze S256x1024 squeezes_S1x256x1024_S256x1024

/-- What a transfer adds to a semaphore. -/
abbrev N : ℕ := (sqM 0).view.dmaCredit
theorem N_pos : 0 < N := View.dmaCredit_pos _ (by decide)
theorem credit_sqM (i : Fin 20) : (sqM i).view.dmaCredit = N := rfl

abbrev slot (c : Dev nD) (i : Fin 20) : sProp 𝕄 := iprop(∃ X, own (F := F) c (slotM i) fullShare X)

variable (I : Ins F)

/-- What transfer `k` of device `c` carries. -/
def Sd (k : Fin 12) (c : Dev nD) : S1x256x1024.Idx → Elt F .bf16 := if k.val < 6 then sdT I k.val c else sdB I (k.val - 6) c

/-- The landing slots of device `d` for the transfers to the right, and to the left. -/
def landsT (d : Dev nD) : sProp 𝕄 :=
  iprop(slot (F := F) d 3 ∗ slot (F := F) d 4 ∗ slot (F := F) d 5 ∗ slot (F := F) d 7 ∗ slot (F := F) d 8 ∗ slot (F := F) d 9)
def landsB (d : Dev nD) : sProp 𝕄 :=
  iprop(slot (F := F) d 13 ∗ slot (F := F) d 14 ∗ slot (F := F) d 15 ∗ slot (F := F) d 17 ∗ slot (F := F) d 18 ∗ slot (F := F) d 19)

/-! ## The schedule -/

/-- Which transfer a DMA semaphore belongs to. -/
def xferOf (q : DmaSem sig) : Fin 12 := ⟨(q.val + 5) % 12, Nat.mod_lt _ (by decide)⟩
theorem xferOf_snd (k : Fin 12) : xferOf (sndQ k) = k := Fin.ext (by have := k.isLt; simp only [xferOf, sndQ]; omega)
theorem xferOf_rcv (k : Fin 12) : xferOf (rcvQ k) = k := Fin.ext (by have := k.isLt; simp only [xferOf, rcvQ]; omega)

def payR (d : Dev nD) (b : Bool) : sProp 𝕄 := if b then landsT (F := F) (nxt d) else landsB (F := F) (prv d)
def payD (d : Dev nD) (q : DmaSem sig) : sProp 𝕄 :=
  if q.val < 19 then own d (slotM (srcI (xferOf q))) fullShare.left (Sd I (xferOf q) d)
  else own d (slotM (dstI (xferOf q))) fullShare (Sd I (xferOf q) (frm (xferOf q) d))
def pay (d : Dev nD) : SemLoc sig → Bool → sProp 𝕄
  | .reg _, b => payR d b
  | .dma q, _ => payD I d q

def dut : SemLoc sig → Finset Bool
  | .reg _ => Finset.univ
  | .dma q => if 7 ≤ q.val then {false} else ∅
def amt : SemLoc sig → ℕ
  | .reg _ => 1
  | .dma _ => N

def Rd : Rounds.Schedule (GSem nD τ sig) Bool 𝕄 where
  duties g r := if r = 0 ∧ g.1.2 = .tc then dut g.2 else ∅
  unitless _ := False
  amount g _ _ := amt g.2
  payload g _ b := pay I g.1.1 g.2 b
  amount_pos g _ _ _ := by
    rcases g with ⟨_, s⟩
    cases s
    · exact Nat.one_pos
    · exact N_pos

instance slot_storable (c : Dev nD) (i : Fin 20) : BI.Storable (upEmb : UEmb _ 𝕄) (slot (F := F) c i) := by infer_instance
instance landsT_storable (d : Dev nD) : BI.Storable (upEmb : UEmb _ 𝕄) (landsT (F := F) d) := by unfold landsT; infer_instance
instance landsB_storable (d : Dev nD) : BI.Storable (upEmb : UEmb _ 𝕄) (landsB (F := F) d) := by unfold landsB; infer_instance
instance Rd_payload_storable (g : GSem nD τ sig) (r : ℕ) (b : Bool) : BI.Storable (upEmb : UEmb _ 𝕄) ((Rd I).payload g r b) := by
  show BI.Storable upEmb (pay I g.1.1 g.2 b)
  rcases g with ⟨t, _ | q⟩
  · show BI.Storable upEmb (payR (F := F) t.1 b); unfold payR; split <;> infer_instance
  · show BI.Storable upEmb (payD I t.1 q); unfold payD; split <;> infer_instance

theorem duties_bar (c : Dev nD) : (Rd I).duties (barCell c) 0 = Finset.univ := by dsimp only [Rd]; rw [if_pos ⟨rfl, rfl⟩]; rfl
theorem duties_snd (c : Dev nD) (k : Fin 12) : (Rd I).duties (sndCell c k) 0 = {false} := by
  dsimp only [Rd]; rw [if_pos ⟨rfl, rfl⟩]; exact if_pos (Nat.le_add_right _ _)
theorem duties_rcv (c : Dev nD) (k : Fin 12) : (Rd I).duties (rcvCell c k) 0 = {false} := by
  dsimp only [Rd]; rw [if_pos ⟨rfl, rfl⟩]; exact if_pos (by simp only [rcvQ]; omega)
theorem duties_later (g : GSem nD τ sig) : ∀ r, 1 ≤ r → (Rd I).duties g r = ∅ := fun r hr => by
  dsimp only [Rd]; exact if_neg fun h => by omega

theorem expect_bar (c : Dev nD) : (Rd I).expect (barCell c) 0 = 2 := by
  unfold Schedule.expect Schedule.amountOf; rw [duties_bar]; rfl
theorem expect_snd (c : Dev nD) (k : Fin 12) : (Rd I).expect (sndCell c k) 0 = N := by
  unfold Schedule.expect Schedule.amountOf; rw [duties_snd, Finset.sum_singleton]; rfl
theorem expect_rcv (c : Dev nD) (k : Fin 12) : (Rd I).expect (rcvCell c k) 0 = N := by
  unfold Schedule.expect Schedule.amountOf; rw [duties_rcv, Finset.sum_singleton]; rfl

theorem payload_snd (c : Dev nD) (k : Fin 12) (b : Bool) :
    (Rd I).payload (sndCell c k) 0 b = own c (slotM (srcI k)) fullShare.left (Sd I k c) := by
  show payD I c (sndQ k) = _
  unfold payD; rw [xferOf_snd]; exact if_pos (by have := k.isLt; simp only [sndQ]; omega)
theorem payload_rcv (c : Dev nD) (k : Fin 12) (b : Bool) :
    (Rd I).payload (rcvCell c k) 0 b = own c (slotM (dstI k)) fullShare (Sd I k (frm k c)) := by
  show payD I c (rcvQ k) = _
  unfold payD; rw [xferOf_rcv]; exact if_neg (by simp only [rcvQ]; omega)

theorem rest_bar (c : Dev nD) : bigSep ((Rd I).duties (barCell c) 0 \ ∅) (fun b => (Rd I).payload (barCell c) 0 b)
    = iprop(landsB (F := F) (prv c) ∗ landsT (F := F) (nxt c)) := by
  rw [Finset.sdiff_empty, duties_bar, bigSep_univ_eq_bigSepL [false, true] (by decide) (by decide), bigSepL_cons_cons, bigSepL_singleton]
  rfl
theorem rest_snd (c : Dev nD) (k : Fin 12) : bigSep ((Rd I).duties (sndCell c k) 0 \ ∅) (fun b => (Rd I).payload (sndCell c k) 0 b)
    = own c (slotM (srcI k)) fullShare.left (Sd I k c) := by
  rw [Finset.sdiff_empty, duties_snd, bigSep_singleton, payload_snd]
theorem rest_rcv (c : Dev nD) (k : Fin 12) : bigSep ((Rd I).duties (rcvCell c k) 0 \ ∅) (fun b => (Rd I).payload (rcvCell c k) 0 b)
    = own c (slotM (dstI k)) fullShare (Sd I k (frm k c)) := by
  rw [Finset.sdiff_empty, duties_rcv, bigSep_singleton, payload_rcv]

/-! ## What a device owes; the levels -/

/-- The transfers in the order a device issues them. -/
def order : List (Fin 12) := [0, 6, 1, 7, 2, 8, 3, 9, 4, 10, 5, 11]

/-- Owing the transfers of a list. -/
def Ox (c : Dev nD) : List (Fin 12) → CellTallies nD τ sig Unit
  | [] => 0
  | k :: ks => Ox c ks + tallyAt (rcvCell (dest k c) k) () N
def O₁ (c : Dev nD) : CellTallies nD τ sig Unit := Ox c order + tallyAt (barCell (nxt c)) () 1
def O₀ (c : Dev nD) : CellTallies nD τ sig Unit := O₁ c + tallyAt (barCell (prv c)) () 1

def L (g : GSem nD τ sig) : Finset Unit := if g.1.2 = .tc then {()} else ∅
def lvD (q : DmaSem sig) : ℕ := if q.val < 19 then 0 else 2 + (xferOf q).val % 6
def lvS : SemLoc sig → ℕ
  | .reg _ => 1
  | .dma q => lvD q
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_rcv (k : Fin 12) : lvS (.dma (rcvQ k)) = 2 + k.val % 6 := by
  show lvD _ = _
  unfold lvD; rw [if_neg (by simp only [rcvQ]; omega), xferOf_rcv]

theorem Ox_pos {c : Dev nD} {g : GSem nD τ sig} {u : Unit} : ∀ {ks : List (Fin 12)}, 0 < Ox c ks g u → ∃ k ∈ ks, g = rcvCell (dest k c) k
  | [], h => by simp [Ox] at h
  | k :: ks, h => by
    unfold Ox at h
    rw [Pi.add_apply, Finsupp.add_apply, tallyAt_apply] at h
    by_cases hg : g = rcvCell (dest k c) k
    · exact ⟨k, by simp, hg⟩
    · rw [if_neg (fun h' => hg h'.1)] at h
      obtain ⟨k', hk', hg'⟩ := Ox_pos (ks := ks) h
      exact ⟨k', by simp [hk'], hg'⟩

theorem O₀_pos {c : Dev nD} {g : GSem nD τ sig} {u : Unit} (h : 0 < O₀ c g u) :
    (∃ k ∈ order, g = rcvCell (dest k c) k) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  obtain ⟨h1, h2, h3⟩ := hn
  rw [if_neg (fun h' => h2 h'.1), if_neg (fun h' => h3 h'.1)] at h
  simp only [Nat.add_zero] at h
  exact h1 (Ox_pos h)

/-- A device may wait at a level below those of the transfers it owes. -/
theorem mayWait (c : Dev nD) (s : SemLoc sig) (ks : List (Fin 12)) (h : ∀ k ∈ ks, lvS s < 2 + k.val % 6) :
    (levAts L lv : sProp 𝕄) ⊢ MayWait (c : Thread nD τ) s () (Ox c ks) :=
  MayOwe.of_cut (L := L) (lev := lv) (lvS s) (fun p hp => by rw [Finset.mem_singleton.mp hp, L_tc]; exact Finset.mem_singleton_self _)
    (fun g u hg => by obtain ⟨k, _, rfl⟩ := Ox_pos hg; exact Finset.mem_singleton_self _)
    (fun p hp => by rw [Finset.mem_singleton.mp hp]; exact le_rfl)
    (fun g u hg => by obtain ⟨k, hk, rfl⟩ := Ox_pos hg; show lvS s < lvS _; rw [lvS_rcv]; exact h k hk)

/-- The pipeline's own waits come before everything owed at the start. -/
theorem mayWait_start (c : Dev nD) (s : SemLoc sig) (h : lvS s = 0) : (levAts L lv : sProp 𝕄) ⊢ MayWait (c : Thread nD τ) s () (O₀ c) :=
  MayOwe.of_cut (L := L) (lev := lv) 0 (fun p hp => by rw [Finset.mem_singleton.mp hp, L_tc]; exact Finset.mem_singleton_self _)
    (fun g u hg => by rcases O₀_pos hg with ⟨k, _, rfl⟩ | rfl | rfl <;> exact Finset.mem_singleton_self _)
    (fun p hp => by rw [Finset.mem_singleton.mp hp]; exact le_of_eq h)
    (fun g u hg => by
      rcases O₀_pos hg with ⟨k, _, rfl⟩ | rfl | rfl
      · show 0 < lvS _; rw [lvS_rcv]; omega
      · exact Nat.one_pos
      · exact Nat.one_pos)

def owesE (c : Dev nD) (O : CellTallies nD τ sig Unit) : sProp 𝕄 := iprop(∃ W : Waits sig Unit, owes (c : Thread nD τ) O W)

/-! ## What every device knows, and what it holds of a transfer -/

def records (K : Dev nD × Fin 25 → ℕ) : sProp 𝕄 :=
  iprop((bigSep Finset.univ fun ck : Dev nD × Fin 25 => cellInv ER (Rd I) (K ck) (kcell ck))
    ∗ bigSep Finset.univ fun ck : Dev nD × Fin 25 => reached ER (kcell ck) 0)
instance records_persistent (K : Dev nD × Fin 25 → ℕ) : BI.Persistent (records I K) := by unfold records; infer_instance

def pers (K : Dev nD × Fin 25 → ℕ) : sProp 𝕄 := iprop(records I K ∗ levAts L lv)
instance pers_persistent (K : Dev nD × Fin 25 → ℕ) : BI.Persistent (pers I K) := by unfold pers; infer_instance

variable (K : Dev nD × Fin 25 → ℕ)

theorem inv_at (ck : Dev nD × Fin 25) {g : GSem nD τ sig} (hg : kcell ck = g) : (pers I K : sProp 𝕄) ⊢ cellInv ER (Rd I) (K ck) g := by
  subst hg
  have h : (bigSep Finset.univ fun ck : Dev nD × Fin 25 => (cellInv ER (Rd I) (K ck) (kcell ck) : sProp 𝕄)) ⊢ cellInv ER (Rd I) (K ck) (kcell ck) :=
    bigSep_elim (Finset.mem_univ ck)
  unfold pers records
  iintro ⟨⟨H, -⟩, -⟩
  iapply h; iexact H
theorem reached_at (ck : Dev nD × Fin 25) {g : GSem nD τ sig} (hg : kcell ck = g) : (pers I K : sProp 𝕄) ⊢ reached ER g 0 := by
  subst hg
  have h : (bigSep Finset.univ fun ck : Dev nD × Fin 25 => (reached ER (kcell ck) 0 : sProp 𝕄)) ⊢ reached ER (kcell ck) 0 :=
    bigSep_elim (Finset.mem_univ ck)
  unfold pers records
  iintro ⟨⟨-, H⟩, -⟩
  iapply h; iexact H
theorem lev_at : (pers I K : sProp 𝕄) ⊢ levAts L lv := by unfold pers; iintro ⟨-, H⟩; iexact H

theorem kS (c : Dev nD) (k : Fin 12) : kcell (c, jS k) = sndCell c k := by unfold kcell; rw [csem_snd]
theorem kR (c : Dev nD) (k : Fin 12) : kcell (c, jR k) = rcvCell c k := by unfold kcell; rw [csem_rcv]

/-- Transfer `k` before it is issued; issued; its send waited for; over. -/
def pre (c : Dev nD) (k : Fin 12) : sProp 𝕄 :=
  iprop(atPos ER (sndCell c k) 0 ∅ 0 ∗ atPos ER (rcvCell c k) 0 ∅ 0 ∗ dutyTok ER (sndCell c k) 0 false
    ∗ dutyTok ER (rcvCell (dest k c) k) 0 false ∗ cred (tallyAt (rcvCell c k) () N))
def mid (c : Dev nD) (k : Fin 12) : sProp 𝕄 :=
  iprop(atPos ER (sndCell c k) 0 ∅ 0 ∗ atPos ER (rcvCell c k) 0 ∅ 0 ∗ cred (tallyAt (sndCell c k) () N) ∗ cred (tallyAt (rcvCell c k) () N))
def sent (c : Dev nD) (k : Fin 12) : sProp 𝕄 :=
  iprop(semVal (sndCell c k) 0 ∗ atPos ER (rcvCell c k) 0 ∅ 0 ∗ cred (tallyAt (rcvCell c k) () N))
def over (c : Dev nD) (k : Fin 12) : sProp 𝕄 := iprop(semVal (sndCell c k) 0 ∗ semVal (rcvCell c k) 0)

/-! ## The steps -/

theorem sig_prv {c n' : Dev nD} (hn' : n' = prv c) {n : ℕ} (hn : 1 = n)
    {α : Type} {k : PUnit → Prog (TpuEff nD τ sig (Elt F) Λ₀ .tc) α} {Q : α → sProp 𝕄} :
    iprop(pers I K ∗ owesE (F := F) c (O₀ c) ∗ dutyTok ER (barCell (prv c)) 0 true ∗ landsT (F := F) c)
      ⊢ iprop((owesE c (O₁ c) -∗ run c (k ⟨⟩) Q) -∗ run c (.op (.semSignal (n' : Thread nD τ) barS n) k) Q) := by
  subst hn' hn
  unfold owesE
  iintro ⟨#HP, ⟨%W, HO⟩, Ht, Hl⟩ Hk
  iapply (Rounds.wp_signal 𝒱₀ ER (Rd I) (c : Thread nD τ) none (dst := (prv c : Thread nD τ)) (κ := K (prv c, 0))
      (d := true) (by rw [duties_bar]; exact Finset.mem_univ _) (rfl : (Rd I).amount (barCell (prv c)) 0 true = 1) () (O₁ c) rfl)
    $$ [HO Ht Hl]
  · isplitr; · iapply (inv_at I K (prv c, 0) rfl); iexact HP
    isplitl [HO]; · iexact HO
    isplitl [Ht]; · iexact Ht
    isplitl [Hl]
    · rw [show (Rd I).payload (barCell (prv c)) 0 true = landsT (F := F) (nxt (prv c)) from rfl, nxt_prv]; iexact Hl
    · iapply (reached_at I K (prv c, 0) rfl); iexact HP
  iintro HO
  iapply Hk
  iexists W; iexact HO

theorem sig_nxt {c n' : Dev nD} (hn' : n' = nxt c) {n : ℕ} (hn : 1 = n)
    {α : Type} {k : PUnit → Prog (TpuEff nD τ sig (Elt F) Λ₀ .tc) α} {Q : α → sProp 𝕄} :
    iprop(pers I K ∗ owesE (F := F) c (O₁ c) ∗ dutyTok ER (barCell (nxt c)) 0 false ∗ landsB (F := F) c)
      ⊢ iprop((owesE c (Ox c order) -∗ run c (k ⟨⟩) Q) -∗ run c (.op (.semSignal (n' : Thread nD τ) barS n) k) Q) := by
  subst hn' hn
  unfold owesE
  iintro ⟨#HP, ⟨%W, HO⟩, Ht, Hl⟩ Hk
  iapply (Rounds.wp_signal 𝒱₀ ER (Rd I) (c : Thread nD τ) none (dst := (nxt c : Thread nD τ)) (κ := K (nxt c, 0))
      (d := false) (by rw [duties_bar]; exact Finset.mem_univ _) (rfl : (Rd I).amount (barCell (nxt c)) 0 false = 1) () (Ox c order) rfl)
    $$ [HO Ht Hl]
  · isplitr; · iapply (inv_at I K (nxt c, 0) rfl); iexact HP
    isplitl [HO]; · iexact HO
    isplitl [Ht]; · iexact Ht
    isplitl [Hl]
    · rw [show (Rd I).payload (barCell (nxt c)) 0 false = landsB (F := F) (prv (nxt c)) from rfl, prv_nxt]; iexact Hl
    · iapply (reached_at I K (nxt c, 0) rfl); iexact HP
  iintro HO
  iapply Hk
  iexists W; iexact HO

/-- The wait at the barrier: the neighbours' landing slots come with it. -/
theorem wait_bar {c : Dev nD} {n : ℕ} (hn : 2 = n) {α : Type} {k : PUnit → Prog (TpuEff nD τ sig (Elt F) Λ₀ .tc) α} {Q : α → sProp 𝕄} :
    iprop(pers I K ∗ owesE (F := F) c (Ox c order) ∗ atPos ER (barCell c) 0 ∅ 0 ∗ cred (tallyAt (barCell c) () 2))
      ⊢ iprop(((owesE c (Ox c order) ∗ semVal (barCell c) 0 ∗ landsB (F := F) (prv c) ∗ landsT (F := F) (nxt c)) -∗ run c (k ⟨⟩) Q)
          -∗ run c (.op (.semWait barS n) k) Q) := by
  subst hn
  unfold owesE
  iintro ⟨#HP, ⟨%W, HO⟩, Hat, Hc⟩ Hk
  iapply (Rounds.wp_wait_rest_token 𝒱₀ ER (Rd I) (c : Thread nD τ) none (κ := K (c, 0))
      (wpE_semWait_eq 𝒱₀ (c : Thread nD τ) none Set.univ) (Set.mem_univ _) () (O := Ox c order) (W := W) (R := 0) (m := 0) (T := ∅)
      (by rw [expect_bar])) $$ [Hc HO Hat]
  · isplitr; · iapply (inv_at I K (c, 0) rfl); iexact HP
    isplitl [Hc]; · iexact Hc
    isplitl [HO]; · iexact HO
    isplitr; · iapply (mayWait c (.reg barS) order (by decide)); iapply (lev_at I K); iexact HP
    iexact Hat
  iintro ⟨HO, Hat, -, Hpay⟩
  imod (Rounds.cell_close ER (Rd I) (Set.mem_univ (K (c, 0))) (fun h => h) (R := 0 + 1) (duties_later I (barCell c))) $$ [Hat] with Hz
  · isplitr; · iapply (inv_at I K (c, 0) rfl); iexact HP
    iexact Hat
  iapply Hk
  isplitl [HO]; · iexists (insert (SemLoc.reg barS, ()) W); iexact HO
  isplitl [Hz]; · iexact Hz
  iapply (Entails.of_eq (rest_bar I c)); iexact Hpay

theorem sem_inb (k : Fin 12) : ∀ a, (![k.val] : Fin 1 → ℕ) a + S1.size a ≤ S12.size a := by
  intro a; have := k.isLt; fin_cases a; show k.val + 1 ≤ 12; omega
theorem sem_snd (k : Fin 12) (inb) :
    ((cc0_scratch3.slice (Rect.unit (s := S12) ![k.val] S1.size inb)).squeeze S_ squeezes_S1_S_).sem = sndQ k := by
  have h : ∀ k : Fin 12, ((cc0_scratch3.slice (Rect.unit (s := S12) ![k.val] S1.size (sem_inb k))).squeeze S_ squeezes_S1_S_).sem = sndQ k := by
    decide +kernel
  exact h k
theorem sem_rcv (k : Fin 12) (inb) :
    ((cc0_scratch4.slice (Rect.unit (s := S12) ![k.val] S1.size inb)).squeeze S_ squeezes_S1_S_).sem = rcvQ k := by
  have h : ∀ k : Fin 12, ((cc0_scratch4.slice (Rect.unit (s := S12) ![k.val] S1.size (sem_inb k))).squeeze S_ squeezes_S1_S_).sem = rcvQ k := by
    decide +kernel
  exact h k

theorem pts_squeeze {c : Dev nD} {sp : Space} {s s' : Shape} {e : EltTy} (m : Memref sig .tc sp s e) (h : s.Squeezes s') (q : PosShare TreeShare)
    (f : Buf (Elt F) (m.view.loc (c : Thread nD τ))) :
    ((m.squeeze s' h).view.loc (c : Thread nD τ) ↦[(m.squeeze s' h).view.set]{q} f : sProp 𝕄) = (m.view.loc (c : Thread nD τ) ↦[m.view.set]{q} f) := by
  show ((m.view.loc (c : Thread nD τ)) ↦[(m.view.reshape s' h.numel_eq).set]{q} f : sProp 𝕄) = _
  rw [View.set_reshape]

/-- An addressed transfer between two squeezed memrefs, in terms of what the memrefs hold. -/
theorem send_core {c n : Dev nD} {s s' : Shape} {e : EltTy} {ms md : Memref sig .tc .vmem s e} (h : s.Squeezes s')
    {sS sR : DmaSem sig} {κ₁ κ₂ : ℕ} {X : s.Idx → Elt F e}
    (hd₁ : (Rd I).duties ((c : Thread nD τ), .dma sS) 0 = {false}) (hd₂ : (Rd I).duties ((n : Thread nD τ), .dma sR) 0 = {false})
    (hN : (md.squeeze s' h).view.amount (.dma sR : SemLoc sig) = N) (O : CellTallies nD τ sig Unit) {O' : CellTallies nD τ sig Unit} {W : Waits sig Unit}
    (hO : O' = O + tallyAt ((n : Thread nD τ), .dma sR) () N)
    (hp₁ : own (F := F) c ms fullShare.left X ⊢ (Rd I).payload ((c : Thread nD τ), .dma sS) 0 false)
    (hp₂ : own (F := F) n md fullShare X ⊢ (Rd I).payload ((n : Thread nD τ), .dma sR) 0 false)
    {hsc hsrc hdst hsem} {α : Type} {kk : PUnit → Prog (TpuEff nD τ sig (Elt F) Λ₀ .tc) α} {Q : α → sProp 𝕄} (hr : τ.routes (c : Thread nD τ) (n : Thread nD τ) = true := by routes) :
    iprop(cellInv ER (Rd I) κ₁ ((c : Thread nD τ), .dma sS) ∗ cellInv ER (Rd I) κ₂ ((n : Thread nD τ), .dma sR)
        ∗ own (F := F) c ms fullShare.left X ∗ (∃ Y, own (F := F) n md fullShare Y) ∗ owes (c : Thread nD τ) O' W
        ∗ dutyTok ER ((c : Thread nD τ), .dma sS) 0 false ∗ reached ER ((c : Thread nD τ), .dma sS) 0
        ∗ dutyTok ER ((n : Thread nD τ), .dma sR) 0 false ∗ reached ER ((n : Thread nD τ), .dma sR) 0)
      ⊢ iprop(((cred (tallyAt ((c : Thread nD τ), .dma sS) () N) ∗ owes (c : Thread nD τ) O W) -∗ run c (kk ⟨⟩) Q)
          -∗ run c (.op (.enqueueDma (ms.squeeze s' h) (.remote (Dev.tc n : Thread nD τ) (md.squeeze s' h) (.dma sS) hsc) (.dma sR) hsrc hdst hsem) kk) Q) := by
  unfold own owns
  iintro ⟨HI1, HI2, ⟨%fs, %hfs, Hs⟩, ⟨%Y, %fd, %hfd, Hd⟩, HO, Ht1, Hr1, Ht2, Hr2⟩
  ihave Hs := (Entails.of_eq (pts_squeeze (c := c) ms h fullShare.left fs).symm) $$ Hs
  ihave Hd := (Entails.of_eq (pts_squeeze (c := n) md h fullShare fd).symm) $$ Hd
  iapply (Rounds.wp_send_pointsTo 𝒱₀ ER (Rd I) (c : Thread nD τ) none (c' := (n : Thread nD τ)) (src := ms.squeeze s' h) (dst := md.squeeze s' h) (sS := .dma sS) (sem := .dma sR)
    (κ₁ := κ₁) (κ₂ := κ₂) (q := fullShare.left) (fs := fs)
    (r₁ := 0) (r₂ := 0) (d₁ := false) (d₂ := false) (fd := fd)
    (by rw [hd₁]; exact Finset.mem_singleton_self _) (by rw [hd₂]; exact Finset.mem_singleton_self _)
    () () N hN rfl rfl O hO (W := W)
    (by
      refine BIBase.Entails.trans ?_ hp₁
      rw [pts_squeeze (c := c) ms h fullShare.left fs]
      unfold own owns
      iintro H
      iexists fs
      isplitr; · ipureintro; exact hfs
      iexact H)
    (by
      refine BIBase.Entails.trans ?_ hp₂
      rw [pts_squeeze (c := n) md h fullShare]
      unfold own owns
      iintro H
      iexists ((md.squeeze s' h).view.write (Elt F) fd ((ms.squeeze s' h).view.read (Elt F) fs) Finset.univ)
      isplitr
      · ipureintro
        funext y
        rw [← Equiv.apply_symm_apply (Shape.reshapeEquiv h.numel_eq) y]
        exact (View.read_write_reshape md.view h.numel_eq fd _ _).trans (congrFun hfs _)
      · iexact H) (hr := hr))
  isplitl [HI1]; · iexact HI1
  isplitl [HI2]; · iexact HI2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

/-- Transfer `k` issued: its source half away, its landing slot at the destination given up. -/
theorem send (k : Fin 12) (ks : List (Fin 12)) {c n : Dev nD} (hn : n = dest k c)
    {oi oj : Fin 3 → ℕ} {p q : Fin 1 → ℕ} {ii ij ip iq}
    (hi : oi = ![(srcI k).val, 0, 0]) (hj : oj = ![(dstI k).val, 0, 0]) (hp : p = ![k.val]) (hq : q = ![k.val])
    {hsc hsrc hdst hsem} {α : Type} {kk : PUnit → Prog (TpuEff nD τ sig (Elt F) Λ₀ .tc) α} {Q : α → sProp 𝕄} :
    iprop(pers I K ∗ owesE (F := F) c (Ox c (k :: ks)) ∗ pre (F := F) c k ∗ slot (F := F) (dest k c) (dstI k)
        ∗ own c (slotM (srcI k)) fullShare (Sd I k c))
      ⊢ iprop(((owesE c (Ox c ks) ∗ mid (F := F) c k ∗ own c (slotM (srcI k)) fullShare.right (Sd I k c)) -∗ run c (kk ⟨⟩) Q)
          -∗ run c (.op (.enqueueDma
              (((Memref.whole cc0_scratch0).slice (Rect.unit (s := S20x256x1024) oi S1x256x1024.size ii) (fun _ => rfl)).squeeze S256x1024 squeezes_S1x256x1024_S256x1024)
              (.remote (Dev.tc n : Thread nD τ)
                (((Memref.whole cc0_scratch0).slice (Rect.unit (s := S20x256x1024) oj S1x256x1024.size ij) (fun _ => rfl)).squeeze S256x1024 squeezes_S1x256x1024_S256x1024)
                (.dma ((cc0_scratch3.slice (Rect.unit (s := S12) p S1.size ip)).squeeze S_ squeezes_S1_S_).sem) hsc)
              (.dma ((cc0_scratch4.slice (Rect.unit (s := S12) q S1.size iq)).squeeze S_ squeezes_S1_S_).sem) hsrc hdst hsem) kk) Q) := by
  subst hn hi hj hp hq
  have e1 := sem_snd k ip
  have e2 := sem_rcv k iq
  generalize ((cc0_scratch3.slice (Rect.unit (s := S12) ![k.val] S1.size ip)).squeeze S_ squeezes_S1_S_).sem = sS at *
  generalize ((cc0_scratch4.slice (Rect.unit (s := S12) ![k.val] S1.size iq)).squeeze S_ squeezes_S1_S_).sem = sR at *
  subst e1 e2
  unfold owesE pre mid
  iintro ⟨#HP, ⟨%W, HO⟩, ⟨HaS, HaR, HtS, HtR, HcR⟩, ⟨%Y, Hd⟩, Hs⟩ Hk
  ihave Hs2 := (owns_halves (c : Thread nD τ) (slotM (srcI k)) fullShare (Sd I k c)).1 $$ Hs
  icases Hs2 with ⟨HsL, HsR⟩
  iapply (send_core I (c := c) (n := dest k c) (ms := slotM (srcI k)) (md := slotM (dstI k)) squeezes_S1x256x1024_S256x1024
    (κ₁ := K (c, jS k)) (κ₂ := K (dest k c, jR k)) (X := Sd I k c) (duties_snd I c k) (duties_rcv I _ k) rfl (Ox c ks) (W := W) rfl
    (Entails.of_eq (payload_snd I c k false).symm) (Entails.of_eq (by rw [payload_rcv, frm_dest]))) $$ [HO HsL Hd HtS HtR]
  · isplitr; · iapply (inv_at I K (c, jS k) (kS c k)); iexact HP
    isplitr; · iapply (inv_at I K (dest k c, jR k) (kR _ k)); iexact HP
    isplitl [HsL]; · iexact HsL
    isplitl [Hd]; · iexists Y; iexact Hd
    isplitl [HO]; · iexact HO
    isplitl [HtS]; · iexact HtS
    isplitr; · iapply (reached_at I K (c, jS k) (kS c k)); iexact HP
    isplitl [HtR]; · iexact HtR
    iapply (reached_at I K (dest k c, jR k) (kR _ k)); iexact HP
  iintro ⟨HcS, HO⟩
  iapply Hk
  isplitl [HO]; · iexists W; iexact HO
  isplitl [HaS HaR HcS HcR]
  · isplitl [HaS]; · iexact HaS
    isplitl [HaR]; · iexact HaR
    isplitl [HcS]; · iexact HcS
    iexact HcR
  iexact HsR

/-- The wait for transfer `k` to have left: its source slot whole again. -/
theorem wait_snd (k : Fin 12) (ks : List (Fin 12)) {c : Dev nD} {p : Fin 1 → ℕ} {ip} (hp : p = ![k.val])
    {src dst : Memref sig .tc .vmem S256x1024 .bf16} {hsrc hdst} (hN : dst.view.dmaCredit = N)
    {α : Type} {kk : PUnit → Prog (TpuEff nD τ sig (Elt F) Λ₀ .tc) α} {Q : α → sProp 𝕄} :
    iprop(pers I K ∗ owesE (F := F) c (Ox c ks) ∗ mid (F := F) c k ∗ own c (slotM (srcI k)) fullShare.right (Sd I k c))
      ⊢ iprop(((owesE c (Ox c ks) ∗ sent (F := F) c k ∗ own c (slotM (srcI k)) fullShare (Sd I k c)) -∗ run c (kk ⟨⟩) Q)
          -∗ run c (.op (.waitDma2 ((cc0_scratch3.slice (Rect.unit (s := S12) p S1.size ip)).squeeze S_ squeezes_S1_S_).sem src dst hsrc hdst) kk) Q) := by
  subst hp
  rw [sem_snd]
  unfold owesE mid sent
  iintro ⟨#HP, ⟨%W, HO⟩, ⟨HaS, HaR, HcS, HcR⟩, HsR⟩ Hk
  iapply (Rounds.wp_wait_rest_token 𝒱₀ ER (Rd I) (c : Thread nD τ) none (κ := K (c, jS k))
      (wpE_waitDma2_eq 𝒱₀ (c : Thread nD τ) none Set.univ) (Set.mem_univ _) () (O := Ox c ks) (W := W) (R := 0) (m := 0) (T := ∅)
      (by rw [Nat.zero_add, hN, expect_snd])) $$ [HcS HO HaS]
  · isplitr; · iapply (inv_at I K (c, jS k) (kS c k)); iexact HP
    isplitl [HcS]; · rw [hN]; iexact HcS
    isplitl [HO]; · iexact HO
    isplitr
    · iapply (mayWait c (.dma (sndQ k)) ks (fun k' _ => by
        show lvD _ < _
        unfold lvD; rw [if_pos (by have := k.isLt; simp only [sndQ]; omega)]; omega))
      iapply (lev_at I K); iexact HP
    iexact HaS
  iintro ⟨HO, Hat, -, Hpay⟩
  imod (Rounds.cell_close ER (Rd I) (Set.mem_univ (K (c, jS k))) (fun h => h) (R := 0 + 1) (duties_later I (sndCell c k))) $$ [Hat] with Hz
  · isplitr; · iapply (inv_at I K (c, jS k) (kS c k)); iexact HP
    iexact Hat
  iapply Hk
  isplitl [HO]; · iexists (insert (SemLoc.dma (sndQ k), ()) W); iexact HO
  isplitl [Hz HaR HcR]
  · isplitl [Hz]; · iexact Hz
    isplitl [HaR]; · iexact HaR
    iexact HcR
  iapply (owns_halves (c : Thread nD τ) (slotM (srcI k)) fullShare (Sd I k c)).2
  isplitl [Hpay]
  · iapply (Entails.of_eq (rest_snd I c k)); iexact Hpay
  iexact HsR

/-- The wait for transfer `k` of the neighbour to have landed: the landing slot with what it carried. -/
theorem wait_rcv (k : Fin 12) (ks : List (Fin 12)) (hks : ∀ k' ∈ ks, k.val % 6 < k'.val % 6) {c : Dev nD} {p : Fin 1 → ℕ} {ip} (hp : p = ![k.val])
    {src dst : Memref sig .tc .vmem S256x1024 .bf16} {hsrc hdst} (hN : dst.view.dmaCredit = N)
    {α : Type} {kk : PUnit → Prog (TpuEff nD τ sig (Elt F) Λ₀ .tc) α} {Q : α → sProp 𝕄} :
    iprop(pers I K ∗ owesE (F := F) c (Ox c ks) ∗ sent (F := F) c k)
      ⊢ iprop(((owesE c (Ox c ks) ∗ over (F := F) c k ∗ own c (slotM (dstI k)) fullShare (Sd I k (frm k c))) -∗ run c (kk ⟨⟩) Q)
          -∗ run c (.op (.waitDma2 ((cc0_scratch4.slice (Rect.unit (s := S12) p S1.size ip)).squeeze S_ squeezes_S1_S_).sem src dst hsrc hdst) kk) Q) := by
  subst hp
  rw [sem_rcv]
  unfold owesE sent over
  iintro ⟨#HP, ⟨%W, HO⟩, HzS, HaR, HcR⟩ Hk
  iapply (Rounds.wp_wait_rest_token 𝒱₀ ER (Rd I) (c : Thread nD τ) none (κ := K (c, jR k))
      (wpE_waitDma2_eq 𝒱₀ (c : Thread nD τ) none Set.univ) (Set.mem_univ _) () (O := Ox c ks) (W := W) (R := 0) (m := 0) (T := ∅)
      (by rw [Nat.zero_add, hN, expect_rcv])) $$ [HcR HO HaR]
  · isplitr; · iapply (inv_at I K (c, jR k) (kR c k)); iexact HP
    isplitl [HcR]; · rw [hN]; iexact HcR
    isplitl [HO]; · iexact HO
    isplitr
    · iapply (mayWait c (.dma (rcvQ k)) ks (fun k' hk' => by rw [lvS_rcv]; have := hks k' hk'; omega))
      iapply (lev_at I K); iexact HP
    iexact HaR
  iintro ⟨HO, Hat, -, Hpay⟩
  imod (Rounds.cell_close ER (Rd I) (Set.mem_univ (K (c, jR k))) (fun h => h) (R := 0 + 1) (duties_later I (rcvCell c k))) $$ [Hat] with Hz
  · isplitr; · iapply (inv_at I K (c, jR k) (kR c k)); iexact HP
    iexact Hat
  iapply Hk
  isplitl [HO]; · iexists (insert (SemLoc.dma (rcvQ k), ()) W); iexact HO
  isplitl [HzS Hz]
  · isplitl [HzS]; · iexact HzS
    iexact Hz
  iapply (Entails.of_eq (rest_rcv I c k)); iexact Hpay

end Cert.Moe

end
-- ==== Proof.Fused.lean ====
/-
# A fused pass

The body of a grid point with the eight experts' weights stacked: the rows of the pass read over and over, one product for the
upper half's block and one for the lower half's.
-/
module

public import proofs.«01_k».proof.Proof.Values

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (i : grid0.Coords) (c : Dev nD) (arg1 : Memref sig .tc .vmem S2048x1024 .bf16) (harg1 : arg1.IsWhole) (arg2 : Memref sig .tc .vmem S1024x32 .bf16) (harg2 : arg2.IsWhole) (arg3 : Memref sig .tc .vmem S2048x1 .i32) (harg3 : arg3.IsWhole)
  (arg4 : Memref sig .tc .vmem S1x1024x1024 .bf16) (harg4 : arg4.IsWhole) (arg5 : Memref sig .tc .vmem S1024x1024 .bf16) (harg5 : arg5.IsWhole) (arg6 : Memref sig .tc .vmem S2048x1024 .bf16) (harg6 : arg6.IsWhole)
  (arg7 : Memref sig .tc .vmem S20x256x1024 .bf16) (harg7 : arg7.IsWhole) (arg8 : Memref sig .tc .vmem S2048x32 .f32) (harg8 : arg8.IsWhole) (arg9 : Memref sig .tc .vmem S8192x1024 .bf16) (harg9 : arg9.IsWhole)
  (arg10 : DmaSems sig S12) (arg11 : DmaSems sig S12)

/-- What a pass reads: the probabilities, the routes, the tokens. -/
def rows3 (c : Dev nD) (arg1 : Memref sig .tc .vmem S2048x1024 .bf16) (arg3 : Memref sig .tc .vmem S2048x1 .i32) (arg8 : Memref sig .tc .vmem S2048x32 .f32)
    (P : S2048x32.Idx → Elt F .f32) (R : S2048x1.Idx → Elt F .i32) (X : S2048x1024.Idx → Elt F .bf16) : sProp 𝕄 :=
  iprop(own c arg8 fullShare P ∗ own c arg3 fullShare R ∗ own c arg1 fullShare X)

section Loads
variable {i c arg1 arg3 arg8} {P : S2048x32.Idx → Elt F .f32} {R : S2048x1.Idx → Elt F .i32} {X : S2048x1024.Idx → Elt F .bf16}

theorem ld_p {α : Type} (b : Fin 8) {off : Fin 2 → ℕ} (h : off = ![256 * b.val, 0]) {inb hl} {k : (S256x32.Idx → Elt F .f32) → Prog (TpuEff nD τ sig (Elt F) Λ₀ .tc) α} {Q : α → sProp 𝕄} :
    rows3 c arg1 arg3 arg8 P R X ⊢ iprop((rows3 c arg1 arg3 arg8 P R X -∗ run c (k (blk b P)) Q)
      -∗ run c (.op (.load arg8 (Rect.unit (s := S2048x32) off S256x32.size inb).toLoadRect hl) k) Q) := by
  unfold rows3
  iintro ⟨Hp, Hr, Hx⟩ Hk
  iapply (ld (rd_blk b P h inb)) $$ Hp
  iintro Hp
  iapply Hk
  isplitl [Hp]; · iexact Hp
  isplitl [Hr]; · iexact Hr
  iexact Hx
theorem ld_r {α : Type} (b : Fin 8) {off : Fin 2 → ℕ} (h : off = ![256 * b.val, 0]) {inb hl} {k : (S256x1.Idx → Elt F .i32) → Prog (TpuEff nD τ sig (Elt F) Λ₀ .tc) α} {Q : α → sProp 𝕄} :
    rows3 c arg1 arg3 arg8 P R X ⊢ iprop((rows3 c arg1 arg3 arg8 P R X -∗ run c (k (blk b R)) Q)
      -∗ run c (.op (.load arg3 (Rect.unit (s := S2048x1) off S256x1.size inb).toLoadRect hl) k) Q) := by
  unfold rows3
  iintro ⟨Hp, Hr, Hx⟩ Hk
  iapply (ld (rd_blk b R h inb)) $$ Hr
  iintro Hr
  iapply Hk
  isplitl [Hp]; · iexact Hp
  isplitl [Hr]; · iexact Hr
  iexact Hx
theorem ld_x {α : Type} (b : Fin 8) {off : Fin 2 → ℕ} (h : off = ![256 * b.val, 0]) {inb hl} {k : (S256x1024.Idx → Elt F .bf16) → Prog (TpuEff nD τ sig (Elt F) Λ₀ .tc) α} {Q : α → sProp 𝕄} :
    rows3 c arg1 arg3 arg8 P R X ⊢ iprop((rows3 c arg1 arg3 arg8 P R X -∗ run c (k (blk b X)) Q)
      -∗ run c (.op (.load arg1 (Rect.unit (s := S2048x1024) off S256x1024.size inb).toLoadRect hl) k) Q) := by
  unfold rows3
  iintro ⟨Hp, Hr, Hx⟩ Hk
  iapply (ld (rd_blk b X h inb)) $$ Hx
  iintro Hx
  iapply Hk
  isplitl [Hp]; · iexact Hp
  isplitl [Hr]; · iexact Hr
  iexact Hx
end Loads

variable (P : S2048x32.Idx → Elt F .f32) (R : S2048x1.Idx → Elt F .i32) (X : S2048x1024.Idx → Elt F .bf16) (E : S8192x1024.Idx → Elt F .bf16) (O : S2048x1024.Idx → Elt F .bf16)
  (v2 v15 v17 : BitVec 32) (h5 : k0_cond5 i = 1#1)

theorem fused2  {Q : _ → sProp 𝕄} :
    rows3 (F := F) c arg1 arg3 arg8 P R X ⊢ iprop((rows3 c arg1 arg3 arg8 P R X -∗ Q ⟨k0_pay8 v2 lanes (blk (bT (pass i) c) P) (blk (bT (pass i) c) R) (blk (bT (pass i) c) X), k0_pay9 v2 lanes (blk (bT (pass i) c) P) (blk (bT (pass i) c) R), k0_pay10 (blk (bT (pass i) c) X)⟩)
      -∗ run c (k0_part2 i arg1 harg1 arg2 harg2 arg3 harg3 arg4 harg4 arg5 harg5 arg6 harg6 arg7 harg7 arg8 harg8 arg9 harg9 arg10 arg11 c v2 v15 lanes h5) Q) := by
  rw [k0_part2_eq_skeleton]; unfold k0_part2_skel
  simp only [Prog.lift, Prog.bind_op, Prog.bind_ret, Prog.pure_eq_ret, Prog.bind_assoc]
  iintro H Hk
  iapply (ld_p (bT (pass i) c) (off12 i c)) $$ H; iintro H
  iapply (ld_r (bT (pass i) c) (off13 i c)) $$ H; iintro H
  iapply (ld_x (bT (pass i) c) (off14 i c)) $$ H; iintro H
  iapply (ld_p (bT (pass i) c) (off12 i c)) $$ H; iintro H
  iapply (ld_r (bT (pass i) c) (off13 i c)) $$ H; iintro H
  iapply (ld_x (bT (pass i) c) (off14 i c)) $$ H; iintro H
  iapply run_ret; iapply Hk; iexact H

theorem fused3 (a : FVec F S256x1 .f32) (b : FVec F S256x1024 .bf16) {Q : _ → sProp 𝕄} :
    rows3 (F := F) c arg1 arg3 arg8 P R X ⊢ iprop((rows3 c arg1 arg3 arg8 P R X -∗ Q ⟨k0_pay11 a b, k0_pay12 v2 lanes (blk (bT (pass i) c) P) (blk (bT (pass i) c) R) (blk (bT (pass i) c) X), k0_pay13 v2 lanes (blk (bT (pass i) c) P) (blk (bT (pass i) c) R)⟩)
      -∗ run c (k0_part3 i arg1 harg1 arg2 harg2 arg3 harg3 arg4 harg4 arg5 harg5 arg6 harg6 arg7 harg7 arg8 harg8 arg9 harg9 arg10 arg11 c v2 v15 lanes h5 a b) Q) := by
  rw [k0_part3_eq_skeleton]; unfold k0_part3_skel
  simp only [Prog.lift, Prog.bind_op, Prog.bind_ret, Prog.pure_eq_ret, Prog.bind_assoc]
  iintro H Hk
  iapply (ld_p (bT (pass i) c) (off12 i c)) $$ H; iintro H
  iapply (ld_r (bT (pass i) c) (off13 i c)) $$ H; iintro H
  iapply (ld_x (bT (pass i) c) (off14 i c)) $$ H; iintro H
  iapply (ld_p (bT (pass i) c) (off12 i c)) $$ H; iintro H
  iapply (ld_r (bT (pass i) c) (off13 i c)) $$ H; iintro H
  iapply run_ret; iapply Hk; iexact H

theorem fused4 (a : FVec F S256x1 .f32) {Q : _ → sProp 𝕄} :
    rows3 (F := F) c arg1 arg3 arg8 P R X ⊢ iprop((rows3 c arg1 arg3 arg8 P R X -∗ Q ⟨k0_pay14 a (blk (bT (pass i) c) X), k0_pay15 v2 lanes (blk (bT (pass i) c) P) (blk (bT (pass i) c) R) (blk (bT (pass i) c) X), k0_pay16 v2 lanes (blk (bT (pass i) c) P), k0_pay17 (blk (bT (pass i) c) R), k0_pay18 v2⟩)
      -∗ run c (k0_part4 i arg1 harg1 arg2 harg2 arg3 harg3 arg4 harg4 arg5 harg5 arg6 harg6 arg7 harg7 arg8 harg8 arg9 harg9 arg10 arg11 c v2 v15 lanes h5 a) Q) := by
  rw [k0_part4_eq_skeleton]; unfold k0_part4_skel
  simp only [Prog.lift, Prog.bind_op, Prog.bind_ret, Prog.pure_eq_ret, Prog.bind_assoc]
  iintro H Hk
  iapply (ld_x (bT (pass i) c) (off14 i c)) $$ H; iintro H
  iapply (ld_p (bT (pass i) c) (off12 i c)) $$ H; iintro H
  iapply (ld_r (bT (pass i) c) (off13 i c)) $$ H; iintro H
  iapply (ld_x (bT (pass i) c) (off14 i c)) $$ H; iintro H
  iapply (ld_p (bT (pass i) c) (off12 i c)) $$ H; iintro H
  iapply (ld_r (bT (pass i) c) (off13 i c)) $$ H; iintro H
  iapply run_ret; iapply Hk; iexact H

theorem fused5 (a : FVec F S256x1 .f32) (b d : IVec S256x1 32) {Q : _ → sProp 𝕄} :
    rows3 (F := F) c arg1 arg3 arg8 P R X ⊢ iprop((rows3 c arg1 arg3 arg8 P R X -∗ Q ⟨k0_pay19 a b d (blk (bT (pass i) c) X), k0_pay20 v2 lanes (blk (bT (pass i) c) P) (blk (bT (pass i) c) R) (blk (bT (pass i) c) X), Scalar.addi (Scalar.muli v2 8#32) 7#32, k0_pay21 v2 lanes (blk (bT (pass i) c) P)⟩)
      -∗ run c (k0_part5 i arg1 harg1 arg2 harg2 arg3 harg3 arg4 harg4 arg5 harg5 arg6 harg6 arg7 harg7 arg8 harg8 arg9 harg9 arg10 arg11 c v2 v15 lanes h5 a b d) Q) := by
  rw [k0_part5_eq_skeleton]; unfold k0_part5_skel
  simp only [Prog.lift, Prog.bind_op, Prog.bind_ret, Prog.pure_eq_ret, Prog.bind_assoc]
  iintro H Hk
  iapply (ld_x (bT (pass i) c) (off14 i c)) $$ H; iintro H
  iapply (ld_p (bT (pass i) c) (off12 i c)) $$ H; iintro H
  iapply (ld_r (bT (pass i) c) (off13 i c)) $$ H; iintro H
  iapply (ld_x (bT (pass i) c) (off14 i c)) $$ H; iintro H
  iapply (ld_p (bT (pass i) c) (off12 i c)) $$ H; iintro H
  iapply run_ret; iapply Hk; iexact H

theorem fused7  {Q : _ → sProp 𝕄} :
    rows3 (F := F) c arg1 arg3 arg8 P R X ⊢ iprop((rows3 c arg1 arg3 arg8 P R X -∗ Q ⟨k0_pay24 v2 lanes 8#32 (blk (bB (pass i) c) P) (blk (bB (pass i) c) R) (blk (bB (pass i) c) X), k0_pay25 v2 lanes (blk (bB (pass i) c) P) (blk (bB (pass i) c) R), k0_pay26 (blk (bB (pass i) c) X)⟩)
      -∗ run c (k0_part7 i arg1 harg1 arg2 harg2 arg3 harg3 arg4 harg4 arg5 harg5 arg6 harg6 arg7 harg7 arg8 harg8 arg9 harg9 arg10 arg11 c v2 v17 lanes h5 8#32) Q) := by
  rw [k0_part7_eq_skeleton]; unfold k0_part7_skel
  simp only [Prog.lift, Prog.bind_op, Prog.bind_ret, Prog.pure_eq_ret, Prog.bind_assoc]
  iintro H Hk
  iapply (ld_p (bB (pass i) c) (off15 i c)) $$ H; iintro H
  iapply (ld_r (bB (pass i) c) (off16 i c)) $$ H; iintro H
  iapply (ld_x (bB (pass i) c) (off17 i c)) $$ H; iintro H
  iapply (ld_p (bB (pass i) c) (off15 i c)) $$ H; iintro H
  iapply (ld_r (bB (pass i) c) (off16 i c)) $$ H; iintro H
  iapply (ld_x (bB (pass i) c) (off17 i c)) $$ H; iintro H
  iapply run_ret; iapply Hk; iexact H

theorem fused8 (a : FVec F S256x1 .f32) (b : FVec F S256x1024 .f32) {Q : _ → sProp 𝕄} :
    rows3 (F := F) c arg1 arg3 arg8 P R X ⊢ iprop((rows3 c arg1 arg3 arg8 P R X -∗ Q ⟨k0_pay27 a b, k0_pay28 v2 lanes (blk (bB (pass i) c) P) (blk (bB (pass i) c) R) (blk (bB (pass i) c) X), k0_pay29 v2 lanes (blk (bB (pass i) c) P) (blk (bB (pass i) c) R)⟩)
      -∗ run c (k0_part8 i arg1 harg1 arg2 harg2 arg3 harg3 arg4 harg4 arg5 harg5 arg6 harg6 arg7 harg7 arg8 harg8 arg9 harg9 arg10 arg11 c v2 v17 lanes h5 a b) Q) := by
  rw [k0_part8_eq_skeleton]; unfold k0_part8_skel
  simp only [Prog.lift, Prog.bind_op, Prog.bind_ret, Prog.pure_eq_ret, Prog.bind_assoc]
  iintro H Hk
  iapply (ld_p (bB (pass i) c) (off15 i c)) $$ H; iintro H
  iapply (ld_r (bB (pass i) c) (off16 i c)) $$ H; iintro H
  iapply (ld_x (bB (pass i) c) (off17 i c)) $$ H; iintro H
  iapply (ld_p (bB (pass i) c) (off15 i c)) $$ H; iintro H
  iapply (ld_r (bB (pass i) c) (off16 i c)) $$ H; iintro H
  iapply run_ret; iapply Hk; iexact H

theorem fused9 (a : FVec F S256x1 .f32) {Q : _ → sProp 𝕄} :
    rows3 (F := F) c arg1 arg3 arg8 P R X ⊢ iprop((rows3 c arg1 arg3 arg8 P R X -∗ Q ⟨k0_pay30 a (blk (bB (pass i) c) X), k0_pay31 v2 lanes (blk (bB (pass i) c) P) (blk (bB (pass i) c) R) (blk (bB (pass i) c) X), k0_pay32 v2 lanes (blk (bB (pass i) c) P), k0_pay33 v2 (blk (bB (pass i) c) R)⟩)
      -∗ run c (k0_part9 i arg1 harg1 arg2 harg2 arg3 harg3 arg4 harg4 arg5 harg5 arg6 harg6 arg7 harg7 arg8 harg8 arg9 harg9 arg10 arg11 c v2 v17 lanes h5 a) Q) := by
  rw [k0_part9_eq_skeleton]; unfold k0_part9_skel
  simp only [Prog.lift, Prog.bind_op, Prog.bind_ret, Prog.pure_eq_ret, Prog.bind_assoc]
  iintro H Hk
  iapply (ld_x (bB (pass i) c) (off17 i c)) $$ H; iintro H
  iapply (ld_p (bB (pass i) c) (off15 i c)) $$ H; iintro H
  iapply (ld_r (bB (pass i) c) (off16 i c)) $$ H; iintro H
  iapply (ld_x (bB (pass i) c) (off17 i c)) $$ H; iintro H
  iapply (ld_p (bB (pass i) c) (off15 i c)) $$ H; iintro H
  iapply (ld_r (bB (pass i) c) (off16 i c)) $$ H; iintro H
  iapply run_ret; iapply Hk; iexact H

theorem fused6 (a0 a1 a2 a3 a4 a5 a6 : FVec F S256x1024 .bf16) (a7 : BitVec 32) (a8 : FVec F S256x1 .f32) {Q : _ → sProp 𝕄} :
    iprop(rows3 (F := F) c arg1 arg3 arg8 P R X ∗ own c arg9 fullShare E ∗ own c arg6 fullShare O)
      ⊢ iprop(((rows3 c arg1 arg3 arg8 P R X ∗ own c arg9 fullShare E ∗ own c arg6 fullShare (setBlk (bT (pass i) c) O (k0_pay22 a0 a1 a2 a3 a4 a5 a6 a7 a8 (blk (bT (pass i) c) R) (blk (bT (pass i) c) X) E)))
          -∗ Q ⟨k0_pay23 v2 lanes (blk (bB (pass i) c) P) (blk (bB (pass i) c) R) (blk (bB (pass i) c) X), 8#32⟩)
      -∗ run c (k0_part6 i arg1 harg1 arg2 harg2 arg3 harg3 arg4 harg4 arg5 harg5 arg6 harg6 arg7 harg7 arg8 harg8 arg9 harg9 arg10 arg11 c v2 v15 v17 lanes h5 a0 a1 a2 a3 a4 a5 a6 a7 a8) Q) := by
  rw [k0_part6_eq_skeleton]; unfold k0_part6_skel
  simp only [Prog.lift, Prog.bind_op, Prog.bind_ret, Prog.pure_eq_ret, Prog.bind_assoc]
  iintro ⟨H, He, Ho⟩ Hk
  iapply (ld_r (bT (pass i) c) (off13 i c)) $$ H; iintro H
  iapply (ld_x (bT (pass i) c) (off14 i c)) $$ H; iintro H
  iapply (ld (rd_all E z2 _)) $$ He; iintro He
  iapply (ld rfl) $$ Ho; iintro Ho
  iapply (st (wr_blk (bT (pass i) c) O (off14 i c) _ _)) $$ Ho; iintro Ho
  iapply (ld_p (bB (pass i) c) (off15 i c)) $$ H; iintro H
  iapply (ld_r (bB (pass i) c) (off16 i c)) $$ H; iintro H
  iapply (ld_x (bB (pass i) c) (off17 i c)) $$ H; iintro H
  iapply run_ret; iapply Hk
  isplitl [H]; · iexact H
  isplitl [He]; · iexact He
  iexact Ho

/-- The whole pass: the upper half's block stored, the lower half's returned. -/
theorem fused10 {Q : _ → sProp 𝕄} :
    iprop(rows3 (F := F) c arg1 arg3 arg8 P R X ∗ own c arg9 fullShare E ∗ own c arg6 fullShare O)
      ⊢ iprop(((rows3 c arg1 arg3 arg8 P R X ∗ own c arg9 fullShare E ∗ own c arg6 fullShare (setBlk (bT (pass i) c) O (fusT v2 (blk (bT (pass i) c) P) (blk (bT (pass i) c) R) (blk (bT (pass i) c) X) E)))
          -∗ Q (fusB v2 (blk (bB (pass i) c) P) (blk (bB (pass i) c) R) (blk (bB (pass i) c) X) E))
      -∗ run c (k0_part10 i arg1 harg1 arg2 harg2 arg3 harg3 arg4 harg4 arg5 harg5 arg6 harg6 arg7 harg7 arg8 harg8 arg9 harg9 arg10 arg11 c v2 v15 v17 lanes h5) Q) := by
  rw [k0_part10_eq_skeleton]; unfold k0_part10_skel fusT fusB
  simp only [Prog.lift, Prog.bind_op, Prog.bind_ret, Prog.pure_eq_ret, Prog.bind_assoc]
  iintro ⟨H, He, Ho⟩ Hk
  rw [run_bind]; iapply (fused2) $$ H; iintro H
  dsimp only
  rw [run_bind]; iapply (fused3) $$ H; iintro H
  dsimp only
  rw [run_bind]; iapply (fused4) $$ H; iintro H
  dsimp only
  rw [run_bind]; iapply (fused5) $$ H; iintro H
  dsimp only
  rw [run_bind]; iapply (fused6 (E := E) (O := O)) $$ [H He Ho]
  · isplitl [H]; · iexact H
    isplitl [He]; · iexact He
    iexact Ho
  iintro ⟨H, He, Ho⟩
  dsimp only
  rw [run_bind]; iapply (fused7) $$ H; iintro H
  dsimp only
  rw [run_bind]; iapply (fused8) $$ H; iintro H
  dsimp only
  rw [run_bind]; iapply (fused9) $$ H; iintro H
  dsimp only
  iapply (ld_x (bB (pass i) c) (off17 i c)) $$ H; iintro H
  iapply (ld_p (bB (pass i) c) (off15 i c)) $$ H; iintro H
  iapply (ld_r (bB (pass i) c) (off16 i c)) $$ H; iintro H
  iapply (ld_x (bB (pass i) c) (off17 i c)) $$ H; iintro H
  iapply (ld (rd_all E z2 _)) $$ He; iintro He
  iapply run_ret; iapply Hk
  isplitl [H]; · iexact H
  isplitl [He]; · iexact He
  iexact Ho

end Cert.Moe

end
-- ==== Proof.Ring.lean ====
/-
# The rounds, packed

What a device holds of the transfers between the grid's points, and the steps of a transfer on it.
-/
module

public import proofs.«01_k».proof.Proof.Protocol
public import proofs.«01_k».proof.Proof.Fused

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (c : Dev nD) (K : Dev nD × Fin 25 → ℕ)

/-- Transfer `k` not started: its tokens and the landing slot at the receiver. -/
def fresh (k : Fin 12) : sProp 𝕄 := iprop(pre (F := F) c k ∗ slot (F := F) (dest k c) (dstI k))
/-- Started: half of the source stays readable. -/
def half (k : Fin 12) : sProp 𝕄 := iprop(mid (F := F) c k ∗ own c (slotM (srcI k)) fullShare.right (Sd I k c))
/-- Its send waited for. -/
def sentS (k : Fin 12) : sProp 𝕄 := iprop(sent (F := F) c k ∗ slot (F := F) c (srcI k))
/-- Both semaphores drained. -/
def overS (k : Fin 12) : sProp 𝕄 := iprop(over (F := F) c k ∗ slot (F := F) c (srcI k))
/-- What transfer `k` brought. -/
def got (k : Fin 12) : sProp 𝕄 := own c (slotM (dstI k)) fullShare (Sd I k (frm k c))

section Steps
variable {c} {α : Type} {Q : α → sProp 𝕄}

theorem begin_send (k : Fin 12) (ks : List (Fin 12)) {n : Dev nD} (hn : n = dest k c)
    {oi oj : Fin 3 → ℕ} {p : Fin 1 → ℕ} {ii ij ip iq}
    (hi : oi = ![(srcI k).val, 0, 0]) (hj : oj = ![(dstI k).val, 0, 0]) (hp : p = ![k.val])
    {hsc hsrc hdst hsem} {α : Type} {kk : PUnit → Prog (TpuEff nD τ sig (Elt F) Λ₀ .tc) α} {Q : α → sProp 𝕄} :
    iprop(pers I K ∗ owesE (F := F) c (Ox c (k :: ks)) ∗ fresh (F := F) c k ∗ own c (slotM (srcI k)) fullShare (Sd I k c))
      ⊢ iprop(((owesE c (Ox c ks) ∗ half I c k) -∗ run c (kk ⟨⟩) Q)
          -∗ run c (.op (.enqueueDma
              (((Memref.whole cc0_scratch0).slice (Rect.unit (s := S20x256x1024) oi S1x256x1024.size ii) (fun _ => rfl)).squeeze S256x1024 squeezes_S1x256x1024_S256x1024)
              (.remote (Dev.tc n : Thread nD τ)
                (((Memref.whole cc0_scratch0).slice (Rect.unit (s := S20x256x1024) oj S1x256x1024.size ij) (fun _ => rfl)).squeeze S256x1024 squeezes_S1x256x1024_S256x1024)
                (.dma ((cc0_scratch3.slice (Rect.unit (s := S12) p S1.size ip)).squeeze S_ squeezes_S1_S_).sem) hsc)
              (.dma ((cc0_scratch4.slice (Rect.unit (s := S12) p S1.size iq)).squeeze S_ squeezes_S1_S_).sem) hsrc hdst hsem) kk) Q) := by
  unfold fresh half
  iintro ⟨#HP, HO, ⟨Hp, Hs⟩, Hd⟩ Hk
  iapply (send I K k ks hn hi hj hp hp) $$ [HO Hp Hs Hd]
  · isplitr; · iexact HP
    isplitl [HO]; · iexact HO
    isplitl [Hp]; · iexact Hp
    isplitl [Hs]; · iexact Hs
    iexact Hd
  iexact Hk

theorem end_send (k : Fin 12) (ks : List (Fin 12)) {p : Fin 1 → ℕ} {ip} (hp : p = ![k.val])
    {src dst : Memref sig .tc .vmem S256x1024 .bf16} {hsrc hdst} (hN : dst.view.dmaCredit = N)
    {α : Type} {kk : PUnit → Prog (TpuEff nD τ sig (Elt F) Λ₀ .tc) α} {Q : α → sProp 𝕄} :
    iprop(pers I K ∗ owesE (F := F) c (Ox c ks) ∗ half I c k)
      ⊢ iprop(((owesE c (Ox c ks) ∗ sentS (F := F) c k) -∗ run c (kk ⟨⟩) Q)
          -∗ run c (.op (.waitDma2 ((cc0_scratch3.slice (Rect.unit (s := S12) p S1.size ip)).squeeze S_ squeezes_S1_S_).sem src dst hsrc hdst) kk) Q) := by
  unfold half sentS
  iintro ⟨#HP, HO, Hm, Hr⟩ Hk
  iapply (wait_snd I K k ks hp hN) $$ [HO Hm Hr]
  · isplitr; · iexact HP
    isplitl [HO]; · iexact HO
    isplitl [Hm]; · iexact Hm
    iexact Hr
  iintro ⟨HO, Hs, Hd⟩
  iapply Hk
  isplitl [HO]; · iexact HO
  isplitl [Hs]; · iexact Hs
  iexists _; iexact Hd

theorem end_recv (k : Fin 12) (ks : List (Fin 12)) (hks : ∀ k' ∈ ks, k.val % 6 < k'.val % 6) {p : Fin 1 → ℕ} {ip} (hp : p = ![k.val])
    {src dst : Memref sig .tc .vmem S256x1024 .bf16} {hsrc hdst} (hN : dst.view.dmaCredit = N)
    {α : Type} {kk : PUnit → Prog (TpuEff nD τ sig (Elt F) Λ₀ .tc) α} {Q : α → sProp 𝕄} :
    iprop(pers I K ∗ owesE (F := F) c (Ox c ks) ∗ sentS (F := F) c k)
      ⊢ iprop(((owesE c (Ox c ks) ∗ overS (F := F) c k ∗ got I c k) -∗ run c (kk ⟨⟩) Q)
          -∗ run c (.op (.waitDma2 ((cc0_scratch4.slice (Rect.unit (s := S12) p S1.size ip)).squeeze S_ squeezes_S1_S_).sem src dst hsrc hdst) kk) Q) := by
  unfold sentS overS got
  iintro ⟨#HP, HO, Hs, Hl⟩ Hk
  iapply (wait_rcv I K k ks hks hp hN) $$ [HO Hs]
  · isplitr; · iexact HP
    isplitl [HO]; · iexact HO
    iexact Hs
  iintro ⟨HO, Ho, Hg⟩
  iapply Hk
  isplitl [HO]; · iexact HO
  isplitl [Ho Hl]
  · isplitl [Ho]; · iexact Ho
    iexact Hl
  iexact Hg

/-- The load before the store that fills a source, and the store. -/
theorem fill (k : Fin 12) {off : Fin 3 → ℕ} {inb inb'} {hl} {w : (S1x256x1024.Idx → Elt F .bf16) → S1x256x1024.Idx → Elt F .bf16} {hx hm}
    (hoff : off = ![(srcI k).val, 0, 0]) (hw : ∀ y, w y = Sd I k c)
    {α : Type} {kk : (S1x256x1024.Idx → Elt F .bf16) → PUnit → Prog (TpuEff nD τ sig (Elt F) Λ₀ .tc) α} {Q : α → sProp 𝕄} :
    slot (F := F) c (srcI k) ⊢ iprop((own c (slotM (srcI k)) fullShare (Sd I k c) -∗ ∀ y, run c (kk y ⟨⟩) Q)
      -∗ run c (.op (.load (Memref.whole cc0_scratch0) (Rect.unit (s := S20x256x1024) off S1x256x1024.size inb).toLoadRect hl)
          fun y => .op (.store (Memref.whole cc0_scratch0) (Rect.unit (s := S20x256x1024) off S1x256x1024.size inb') (w y) Finset.univ hx hm) (kk y)) Q) := by
  iintro ⟨%X, H⟩ Hk
  iapply (ld_slot (srcI k) hoff) $$ H
  iintro H
  iapply (st_slot (srcI k) hoff) $$ H
  iintro H
  rw [show w X = Sd I k c from hw X]
  ihave Hk := Hk $$ H
  iapply Hk

theorem ld_half (k : Fin 12) {off : Fin 3 → ℕ} {inb} {hl} (hoff : off = ![(srcI k).val, 0, 0])
    {α : Type} {kk : (S1x256x1024.Idx → Elt F .bf16) → Prog (TpuEff nD τ sig (Elt F) Λ₀ .tc) α} {Q : α → sProp 𝕄} :
    half I c k ⊢ iprop((half I c k -∗ run c (kk (Sd I k c)) Q)
      -∗ run c (.op (.load (Memref.whole cc0_scratch0) (Rect.unit (s := S20x256x1024) off S1x256x1024.size inb).toLoadRect hl) kk) Q) := by
  unfold half
  iintro ⟨Hm, H⟩ Hk
  iapply (ld_slot (srcI k) hoff) $$ H
  iintro H
  iapply Hk
  isplitl [Hm]; · iexact Hm
  iexact H

theorem ld_got (k : Fin 12) {off : Fin 3 → ℕ} {inb} {hl} (hoff : off = ![(dstI k).val, 0, 0])
    {α : Type} {kk : (S1x256x1024.Idx → Elt F .bf16) → Prog (TpuEff nD τ sig (Elt F) Λ₀ .tc) α} {Q : α → sProp 𝕄} :
    got I c k ⊢ iprop((got I c k -∗ run c (kk (Sd I k (frm k c))) Q)
      -∗ run c (.op (.load (Memref.whole cc0_scratch0) (Rect.unit (s := S20x256x1024) off S1x256x1024.size inb).toLoadRect hl) kk) Q) := by
  unfold got
  iintro H Hk
  iapply (ld_slot (dstI k) hoff) $$ H
  iexact Hk

theorem got_slot (k : Fin 12) : got I c k ⊢ slot (F := F) c (dstI k) := by
  unfold got; iintro H; iexists _; iexact H

theorem run_deviceId {α : Type} (k : Dev nD → Prog (TpuEff nD τ sig (Elt F) Λ₀ .tc) α) {Q : α → sProp 𝕄} :
    run (F := F) c (.op .deviceId k) Q = run c (k c) Q := by
  unfold run; rw [wp_deviceId]

end Steps

/-- The slots of the landing side, over the ring of devices. -/
theorem credit_at {off : Fin 3 → ℕ} {inb} :
    ((((Memref.whole cc0_scratch0).slice (Rect.unit (s := S20x256x1024) off S1x256x1024.size inb) (fun _ => rfl)).squeeze S256x1024 squeezes_S1x256x1024_S256x1024 : Memref sig .tc .vmem S256x1024 .bf16)).view.dmaCredit = N := rfl

/-- A pair of transfers, one each way, before, between and after. -/
def g (j j' : Fin 12) : sProp 𝕄 := iprop(fresh (F := F) c j ∗ fresh (F := F) c j' ∗ slot (F := F) c (srcI j) ∗ slot (F := F) c (srcI j'))
def h (j j' : Fin 12) : sProp 𝕄 := iprop(half I c j ∗ half I c j')
def d (j j' : Fin 12) : sProp 𝕄 := iprop(overS (F := F) c j ∗ overS (F := F) c j' ∗ slot (F := F) c (dstI j) ∗ slot (F := F) c (dstI j'))

/-! ## The devices the transfers go to -/

theorem dev3 : ∀ c : Dev nD, k0_dev3 c = (dest 0 c).val := by decide +kernel
theorem dev4 : ∀ c : Dev nD, k0_dev4 c = (dest 6 c).val := by decide +kernel
theorem dev5 : ∀ c : Dev nD, k0_dev5 c = (dest 1 c).val := by decide +kernel
theorem dev6 : ∀ c : Dev nD, k0_dev6 c = (dest 7 c).val := by decide +kernel
theorem dev7 : ∀ c : Dev nD, k0_dev7 c = (dest 2 c).val := by decide +kernel
theorem dev8 : ∀ c : Dev nD, k0_dev8 c = (dest 8 c).val := by decide +kernel
theorem dev9 : ∀ c : Dev nD, k0_dev9 c = (dest 3 c).val := by decide +kernel
theorem dev10 : ∀ c : Dev nD, k0_dev10 c = (dest 9 c).val := by decide +kernel
theorem dev11 : ∀ c : Dev nD, k0_dev11 c = (dest 4 c).val := by decide +kernel
theorem dev12 : ∀ c : Dev nD, k0_dev12 c = (dest 10 c).val := by decide +kernel
theorem dev13 : ∀ c : Dev nD, k0_dev13 c = (dest 5 c).val := by decide +kernel
theorem dev14 : ∀ c : Dev nD, k0_dev14 c = (dest 11 c).val := by decide +kernel
theorem dev1 : ∀ c : Dev nD, k0_dev1 c = (prv c).val := by decide +kernel
theorem dev2 : ∀ c : Dev nD, k0_dev2 c = (nxt c).val := by decide +kernel

/-! ## Which branches a point takes -/

theorem cond1 : ∀ i : grid0.Coords, k0_cond1 i = 1#1 ↔ (i 0).val = 0 := by decide +kernel
theorem cond2 : ∀ i : grid0.Coords, k0_cond2 i = 1#1 ↔ (i 0).val < 8 := by decide +kernel
theorem cond3 : ∀ i : grid0.Coords, k0_cond3 i = 1#1 ↔ (i 0).val = 0 := by decide +kernel
theorem cond4 : ∀ i : grid0.Coords, k0_cond4 i = 1#1 ↔ (i 0).val ≠ 0 := by decide +kernel
theorem cond5 : ∀ i : grid0.Coords, k0_cond5 i = 1#1 ↔ (i 0).val ≥ 8 := by decide +kernel
theorem cond6 : ∀ i : grid0.Coords, k0_cond6 i = 1#1 ↔ (i 0).val = 7 := by decide +kernel
theorem cond7 : ∀ i : grid0.Coords, k0_cond7 i = 1#1 ↔ (i 0).val = 8 := by decide +kernel
theorem cond8 : ∀ i : grid0.Coords, k0_cond8 i = 1#1 ↔ (i 0).val = 9 := by decide +kernel
theorem cond9 : ∀ i : grid0.Coords, k0_cond9 i = 1#1 ↔ (i 0).val = 10 := by decide +kernel

end Cert.Moe

end
-- ==== Proof.Late.lean ====
/-
# The points of the ring

What each of the grid's last four points does on a device: the rounds of the reduction, and the gathering.
-/
module

public import proofs.«01_k».proof.Proof.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (c : Dev nD) (K : Dev nD × Fin 25 → ℕ) (i : grid0.Coords) (arg1 : Memref sig .tc .vmem S2048x1024 .bf16) (harg1 : arg1.IsWhole) (arg2 : Memref sig .tc .vmem S1024x32 .bf16) (harg2 : arg2.IsWhole) (arg3 : Memref sig .tc .vmem S2048x1 .i32) (harg3 : arg3.IsWhole)
  (arg4 : Memref sig .tc .vmem S1x1024x1024 .bf16) (harg4 : arg4.IsWhole) (arg5 : Memref sig .tc .vmem S1024x1024 .bf16) (harg5 : arg5.IsWhole) (arg6 : Memref sig .tc .vmem S2048x1024 .bf16) (harg6 : arg6.IsWhole)

theorem point8 (hi : (i 0).val = 8) (O : S2048x1024.Idx → Elt F .bf16) {Q : PUnit → sProp 𝕄} :
    iprop(pers I K ∗ owesE c (Ox c [1, 7, 2, 8, 3, 9, 4, 10, 5, 11]) ∗ h I c 0 6 ∗ g c 1 7 ∗ rows3 c arg1 arg3 (Memref.whole cc0_scratch1) (probs I c) (I.rt c) (I.x c) ∗ own c (Memref.whole cc0_scratch2) fullShare (stack I c) ∗ own c arg6 fullShare O)
      ⊢ iprop(((owesE c (Ox c [2, 8, 3, 9, 4, 10, 5, 11]) ∗ d c 0 6 ∗ h I c 1 7 ∗ rows3 c arg1 arg3 (Memref.whole cc0_scratch1) (probs I c) (I.rt c) (I.x c) ∗ own c (Memref.whole cc0_scratch2) fullShare (stack I c) ∗ ∃ O', own c arg6 fullShare O') -∗ Q ⟨⟩)
        -∗ run c (cc0_body i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q) := by
  have hp : pass i = 1 := by unfold pass; omega
  have h1 : ¬ k0_cond1 i = 1#1 := by rw [cond1]; omega
  have h2 : ¬ k0_cond2 i = 1#1 := by rw [cond2]; omega
  have h3 : ¬ k0_cond3 i = 1#1 := by rw [cond3]; omega
  have h4 : k0_cond4 i = 1#1 := by rw [cond4]; omega
  have h5 : k0_cond5 i = 1#1 := by rw [cond5]; omega
  have h6 : ¬ k0_cond6 i = 1#1 := by rw [cond6]; omega
  have h7 : k0_cond7 i = 1#1 := by rw [cond7]; omega
  have h8 : ¬ k0_cond8 i = 1#1 := by rw [cond8]; omega
  have h9 : ¬ k0_cond9 i = 1#1 := by rw [cond9]; omega
  rw [cc0_body_eq_skeleton]; unfold cc0_body_skel
  rw [run_bind, k0_part25_eq_skeleton]; unfold k0_part25_skel
  simp only [Prog.lift, Prog.bind_op, Prog.bind_ret, Prog.pure_eq_ret, Prog.bind_assoc, semSignalWord, semWaitWord, run_deviceId, dif_neg h1, dif_neg h2, dif_neg h3, dif_pos h4, dif_pos h5, dif_neg h6, dif_pos h7, dif_neg h8, dif_neg h9]
  unfold h g d
  iintro ⟨#HP, HO, ⟨Hh0, Hh6⟩, ⟨Hf1, Hf7, Hz1, Hz7⟩, H3, H9, H6⟩ Hk
  rw [run_bind]
  iapply (fused10 (E := stack I c) (O := O)) $$ [H3 H9 H6]
  · isplitl [H3]; · iexact H3
    isplitl [H9]; · iexact H9
    iexact H6
  iintro ⟨H3, H9, H6⟩
  iapply (ld rfl) $$ H6
  iintro H6
  iapply (st (wr_blk (bB (pass i) c) _ (off17 i c) _ _)) $$ H6
  iintro H6
  iapply run_ret
  try dsimp only
  rw [run_bind, k0_part12_eq_skeleton]; unfold k0_part12_skel
  simp only [Prog.lift, Prog.bind_op, Prog.bind_ret, Prog.pure_eq_ret, Prog.bind_assoc]
  iapply (end_send I K 0 [1, 7, 2, 8, 3, 9, 4, 10, 5, 11] (by decide) credit_at) $$ [HO Hh0]
  · isplitr; · iexact HP
    isplitl [HO]; · iexact HO
    iexact Hh0
  iintro ⟨HO, Hs0⟩
  iapply (end_recv I K 0 [1, 7, 2, 8, 3, 9, 4, 10, 5, 11] (by decide) (by decide) credit_at) $$ [HO Hs0]
  · isplitr; · iexact HP
    isplitl [HO]; · iexact HO
    iexact Hs0
  iintro ⟨HO, Ho0, Hg0⟩
  iapply (ld_got I 0 (by decide)) $$ Hg0
  iintro Hg0
  iapply (ld ((rd_blk (bT (pass i) c) _ (off20 i c) _).trans (show _ = passT I c 1 by rw [blk_setBlk_ne (bT_ne_bB _ _ _ _), blk_setBlk]; unfold passT wpos; rw [hp]))) $$ H6
  iintro H6
  iapply (fill I 1 (by decide) (fun _ => rfl)) $$ Hz1
  iintro Hd1 %y1
  iapply run_ret
  try dsimp only
  rw [run_bind, k0_part13_eq_skeleton]; unfold k0_part13_skel
  simp only [Prog.lift, Prog.bind_op, Prog.bind_ret, Prog.pure_eq_ret, Prog.bind_assoc]
  iapply (begin_send I K 1 [7, 2, 8, 3, 9, 4, 10, 5, 11] (Fin.ext (dev5 c)) (by decide) (by decide) (by decide)) $$ [HO Hf1 Hd1]
  · isplitr; · iexact HP
    isplitl [HO]; · iexact HO
    isplitl [Hf1]; · iexact Hf1
    iexact Hd1
  iintro ⟨HO, Hh1⟩
  iapply (end_send I K 6 [7, 2, 8, 3, 9, 4, 10, 5, 11] (by decide) credit_at) $$ [HO Hh6]
  · isplitr; · iexact HP
    isplitl [HO]; · iexact HO
    iexact Hh6
  iintro ⟨HO, Hs6⟩
  iapply (end_recv I K 6 [7, 2, 8, 3, 9, 4, 10, 5, 11] (by decide) (by decide) credit_at) $$ [HO Hs6]
  · isplitr; · iexact HP
    isplitl [HO]; · iexact HO
    iexact Hs6
  iintro ⟨HO, Ho6, Hg6⟩
  iapply (ld_got I 6 (by decide)) $$ Hg6
  iintro Hg6
  iapply (ld ((rd_blk (bB (pass i) c) _ (off21 i c) _).trans (show _ = passB I c 1 by rw [blk_setBlk]; unfold passB wpos; rw [hp]))) $$ H6
  iintro H6
  iapply run_ret
  try dsimp only
  iapply (fill I 7 (by decide) (fun _ => rfl)) $$ Hz7
  iintro Hd7 %y7
  iapply (begin_send I K 7 [2, 8, 3, 9, 4, 10, 5, 11] (Fin.ext (dev6 c)) (by decide) (by decide) (by decide)) $$ [HO Hf7 Hd7]
  · isplitr; · iexact HP
    isplitl [HO]; · iexact HO
    isplitl [Hf7]; · iexact Hf7
    iexact Hd7
  iintro ⟨HO, Hh7⟩
  iapply run_ret
  try dsimp only
  iapply Hk
  isplitl [HO]; · iexact HO
  isplitl [Ho0 Ho6 Hg0 Hg6]
  · isplitl [Ho0]; · iexact Ho0
    isplitl [Ho6]; · iexact Ho6
    isplitl [Hg0]; · iapply (got_slot I 0); iexact Hg0
    iapply (got_slot I 6); iexact Hg6
  isplitl [Hh1 Hh7]
  · isplitl [Hh1]; · iexact Hh1
    iexact Hh7
  isplitl [H3]; · iexact H3
  isplitl [H9]; · iexact H9
  iexists _; iexact H6

theorem point9 (hi : (i 0).val = 9) (O : S2048x1024.Idx → Elt F .bf16) {Q : PUnit → sProp 𝕄} :
    iprop(pers I K ∗ owesE c (Ox c [2, 8, 3, 9, 4, 10, 5, 11]) ∗ h I c 1 7 ∗ g c 2 8 ∗ rows3 c arg1 arg3 (Memref.whole cc0_scratch1) (probs I c) (I.rt c) (I.x c) ∗ own c (Memref.whole cc0_scratch2) fullShare (stack I c) ∗ own c arg6 fullShare O)
      ⊢ iprop(((owesE c (Ox c [3, 9, 4, 10, 5, 11]) ∗ d c 1 7 ∗ h I c 2 8 ∗ rows3 c arg1 arg3 (Memref.whole cc0_scratch1) (probs I c) (I.rt c) (I.x c) ∗ own c (Memref.whole cc0_scratch2) fullShare (stack I c) ∗ ∃ O', own c arg6 fullShare O') -∗ Q ⟨⟩)
        -∗ run c (cc0_body i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q) := by
  have hp : pass i = 2 := by unfold pass; omega
  have h1 : ¬ k0_cond1 i = 1#1 := by rw [cond1]; omega
  have h2 : ¬ k0_cond2 i = 1#1 := by rw [cond2]; omega
  have h3 : ¬ k0_cond3 i = 1#1 := by rw [cond3]; omega
  have h4 : k0_cond4 i = 1#1 := by rw [cond4]; omega
  have h5 : k0_cond5 i = 1#1 := by rw [cond5]; omega
  have h6 : ¬ k0_cond6 i = 1#1 := by rw [cond6]; omega
  have h7 : ¬ k0_cond7 i = 1#1 := by rw [cond7]; omega
  have h8 : k0_cond8 i = 1#1 := by rw [cond8]; omega
  have h9 : ¬ k0_cond9 i = 1#1 := by rw [cond9]; omega
  rw [cc0_body_eq_skeleton]; unfold cc0_body_skel
  rw [run_bind, k0_part25_eq_skeleton]; unfold k0_part25_skel
  simp only [Prog.lift, Prog.bind_op, Prog.bind_ret, Prog.pure_eq_ret, Prog.bind_assoc, semSignalWord, semWaitWord, run_deviceId, dif_neg h1, dif_neg h2, dif_neg h3, dif_pos h4, dif_pos h5, dif_neg h6, dif_neg h7, dif_pos h8, dif_neg h9]
  unfold h g d
  iintro ⟨#HP, HO, ⟨Hh1, Hh7⟩, ⟨Hf2, Hf8, Hz2, Hz8⟩, H3, H9, H6⟩ Hk
  rw [run_bind]
  iapply (fused10 (E := stack I c) (O := O)) $$ [H3 H9 H6]
  · isplitl [H3]; · iexact H3
    isplitl [H9]; · iexact H9
    iexact H6
  iintro ⟨H3, H9, H6⟩
  iapply (ld rfl) $$ H6
  iintro H6
  iapply (st (wr_blk (bB (pass i) c) _ (off17 i c) _ _)) $$ H6
  iintro H6
  iapply run_ret
  try dsimp only
  rw [run_bind, k0_part14_eq_skeleton]; unfold k0_part14_skel
  simp only [Prog.lift, Prog.bind_op, Prog.bind_ret, Prog.pure_eq_ret, Prog.bind_assoc]
  iapply (end_send I K 1 [2, 8, 3, 9, 4, 10, 5, 11] (by decide) credit_at) $$ [HO Hh1]
  · isplitr; · iexact HP
    isplitl [HO]; · iexact HO
    iexact Hh1
  iintro ⟨HO, Hs1⟩
  iapply (end_recv I K 1 [2, 8, 3, 9, 4, 10, 5, 11] (by decide) (by decide) credit_at) $$ [HO Hs1]
  · isplitr; · iexact HP
    isplitl [HO]; · iexact HO
    iexact Hs1
  iintro ⟨HO, Ho1, Hg1⟩
  iapply (ld_got I 1 (by decide)) $$ Hg1
  iintro Hg1
  iapply (ld ((rd_blk (bT (pass i) c) _ (off22 i c) _).trans (show _ = passT I c 2 by rw [blk_setBlk_ne (bT_ne_bB _ _ _ _), blk_setBlk]; unfold passT wpos; rw [hp]))) $$ H6
  iintro H6
  iapply (fill I 2 (by decide) (fun _ => rfl)) $$ Hz2
  iintro Hd2 %y2
  iapply run_ret
  try dsimp only
  rw [run_bind, k0_part15_eq_skeleton]; unfold k0_part15_skel
  simp only [Prog.lift, Prog.bind_op, Prog.bind_ret, Prog.pure_eq_ret, Prog.bind_assoc]
  iapply (begin_send I K 2 [8, 3, 9, 4, 10, 5, 11] (Fin.ext (dev7 c)) (by decide) (by decide) (by decide)) $$ [HO Hf2 Hd2]
  · isplitr; · iexact HP
    isplitl [HO]; · iexact HO
    isplitl [Hf2]; · iexact Hf2
    iexact Hd2
  iintro ⟨HO, Hh2⟩
  iapply (end_send I K 7 [8, 3, 9, 4, 10, 5, 11] (by decide) credit_at) $$ [HO Hh7]
  · isplitr; · iexact HP
    isplitl [HO]; · iexact HO
    iexact Hh7
  iintro ⟨HO, Hs7⟩
  iapply (end_recv I K 7 [8, 3, 9, 4, 10, 5, 11] (by decide) (by decide) credit_at) $$ [HO Hs7]
  · isplitr; · iexact HP
    isplitl [HO]; · iexact HO
    iexact Hs7
  iintro ⟨HO, Ho7, Hg7⟩
  iapply (ld_got I 7 (by decide)) $$ Hg7
  iintro Hg7
  iapply (ld ((rd_blk (bB (pass i) c) _ (off23 i c) _).trans (show _ = passB I c 2 by rw [blk_setBlk]; unfold passB wpos; rw [hp]))) $$ H6
  iintro H6
  iapply run_ret
  try dsimp only
  iapply (fill I 8 (by decide) (fun _ => rfl)) $$ Hz8
  iintro Hd8 %y8
  iapply (begin_send I K 8 [3, 9, 4, 10, 5, 11] (Fin.ext (dev8 c)) (by decide) (by decide) (by decide)) $$ [HO Hf8 Hd8]
  · isplitr; · iexact HP
    isplitl [HO]; · iexact HO
    isplitl [Hf8]; · iexact Hf8
    iexact Hd8
  iintro ⟨HO, Hh8⟩
  iapply run_ret
  try dsimp only
  iapply Hk
  isplitl [HO]; · iexact HO
  isplitl [Ho1 Ho7 Hg1 Hg7]
  · isplitl [Ho1]; · iexact Ho1
    isplitl [Ho7]; · iexact Ho7
    isplitl [Hg1]; · iapply (got_slot I 1); iexact Hg1
    iapply (got_slot I 7); iexact Hg7
  isplitl [Hh2 Hh8]
  · isplitl [Hh2]; · iexact Hh2
    iexact Hh8
  isplitl [H3]; · iexact H3
  isplitl [H9]; · iexact H9
  iexists _; iexact H6

theorem bT_ne : ∀ (q q' : Fin 4) (c : Dev nD), q ≠ q' → bT q.val c ≠ bT q'.val c := by decide +kernel
theorem bB_ne : ∀ (q q' : Fin 4) (c : Dev nD), q ≠ q' → bB q.val c ≠ bB q'.val c := by decide +kernel

/-- The eight stores of the last point leave the result, whatever was there. -/
theorem filled (O : S2048x1024.Idx → Elt F .bf16) :
    setBlk (bB 2 c) (setBlk (bT 2 c) (setBlk (bB 1 c) (setBlk (bT 1 c) (setBlk (bB 0 c) (setBlk (bT 0 c) (setBlk (bB 3 c) (setBlk (bT 3 c) O
      (finT I c 3)) (finB I c 3)) (finT I c 0)) (finB I c 0)) (finT I c 1)) (finB I c 1)) (finT I c 2)) (finB I c 2) = result I c := by
  have tt := fun (q q' : Fin 4) (hq : q ≠ q') => bT_ne q q' c hq
  have bb := fun (q q' : Fin 4) (hq : q ≠ q') => bB_ne q q' c hq
  refine result_ext I (fun q hq => ?_) (fun q hq => ?_)
  · have hn : ∀ n : Fin 4, q ≠ n.val → bT q c ≠ bT n.val c := fun n e => tt ⟨q, hq⟩ n fun e' => e (congrArg Fin.val e')
    have h0 : q ≠ 0 → bT q c ≠ bT 0 c := hn 0
    have h1 : q ≠ 1 → bT q c ≠ bT 1 c := hn 1
    have h2 : q ≠ 2 → bT q c ≠ bT 2 c := hn 2
    rw [blk_setBlk_ne (bT_ne_bB _ _ _ _)]
    by_cases e2 : q = 2
    · subst e2; rw [blk_setBlk]
    rw [blk_setBlk_ne (h2 e2), blk_setBlk_ne (bT_ne_bB _ _ _ _)]
    by_cases e1 : q = 1
    · subst e1; rw [blk_setBlk]
    rw [blk_setBlk_ne (h1 e1), blk_setBlk_ne (bT_ne_bB _ _ _ _)]
    by_cases e0 : q = 0
    · subst e0; rw [blk_setBlk]
    rw [blk_setBlk_ne (h0 e0), blk_setBlk_ne (bT_ne_bB _ _ _ _)]
    have e3 : q = 3 := by omega
    subst e3; rw [blk_setBlk]
  · have hn : ∀ n : Fin 4, q ≠ n.val → bB q c ≠ bB n.val c := fun n e => bb ⟨q, hq⟩ n fun e' => e (congrArg Fin.val e')
    have h0 : q ≠ 0 → bB q c ≠ bB 0 c := hn 0
    have h1 : q ≠ 1 → bB q c ≠ bB 1 c := hn 1
    have h2 : q ≠ 2 → bB q c ≠ bB 2 c := hn 2
    by_cases e2 : q = 2
    · subst e2; rw [blk_setBlk]
    rw [blk_setBlk_ne (h2 e2), blk_setBlk_ne (bB_ne_bT _ _ _ _)]
    by_cases e1 : q = 1
    · subst e1; rw [blk_setBlk]
    rw [blk_setBlk_ne (h1 e1), blk_setBlk_ne (bB_ne_bT _ _ _ _)]
    by_cases e0 : q = 0
    · subst e0; rw [blk_setBlk]
    rw [blk_setBlk_ne (h0 e0), blk_setBlk_ne (bB_ne_bT _ _ _ _)]
    have e3 : q = 3 := by omega
    subst e3; rw [blk_setBlk]

/-- The gathering's transfers, done. -/
def gathered (c : Dev nD) : sProp 𝕄 :=
  iprop(overS (F := F) c 3 ∗ overS (F := F) c 9 ∗ overS (F := F) c 4 ∗ overS (F := F) c 10 ∗ overS (F := F) c 5 ∗ overS (F := F) c 11
    ∗ slot (F := F) c (dstI 5) ∗ slot (F := F) c (dstI 11))
/-- Before them. -/
def toGather (c : Dev nD) : sProp 𝕄 :=
  iprop(fresh (F := F) c 3 ∗ fresh (F := F) c 9 ∗ fresh (F := F) c 4 ∗ fresh (F := F) c 10 ∗ fresh (F := F) c 5 ∗ fresh (F := F) c 11
    ∗ slot (F := F) c (srcI 3) ∗ slot (F := F) c (srcI 9))

theorem Sd_T (k : Fin 12) (hk : k.val < 6) : Sd I k c = sdT I k.val c := if_pos hk
theorem Sd_B (k : Fin 12) (hk : ¬ k.val < 6) : Sd I k c = sdB I (k.val - 6) c := if_neg hk
theorem frm_T (k : Fin 12) (hk : k.val < 6) : frm k c = prv c := if_pos hk
theorem frm_B (k : Fin 12) (hk : ¬ k.val < 6) : frm k c = nxt c := if_neg hk
theorem sdT_add (k : ℕ) : sdT I (k + 4) c = sdT I (k + 3) (prv c) := by rw [sdT]
theorem sdB_add (k : ℕ) : sdB I (k + 4) c = sdB I (k + 3) (nxt c) := by rw [sdB]
theorem sd3 : k0_pay43 (k0_pay42 (I.sw c) (Sd I 2 (frm 2 c)) (passT I c 3) (blk (bT 3 c) (I.x c))) = Sd I 3 c := by
  rw [Sd_T I c 3 (by decide), Sd_T I _ 2 (by decide), frm_T c 2 (by decide)]
  show _ = sdT I 3 c
  rw [sdT]; rfl
theorem sd9 : k0_pay45 (k0_pay44 (k0_pay41 (I.sw c)) (Sd I 8 (frm 8 c)) (passB I c 3) (blk (bB 3 c) (I.x c))) = Sd I 9 c := by
  rw [Sd_B I c 9 (by decide), Sd_B I _ 8 (by decide), frm_B c 8 (by decide)]
  show _ = sdB I 3 c
  rw [sdB]; rfl
theorem sd4 : Sd I 3 (frm 3 c) = Sd I 4 c := by
  rw [Sd_T I _ 3 (by decide), Sd_T I _ 4 (by decide), frm_T c 3 (by decide)]; exact (sdT_add I c 0).symm
theorem sd5 : Sd I 4 (frm 4 c) = Sd I 5 c := by
  rw [Sd_T I _ 4 (by decide), Sd_T I _ 5 (by decide), frm_T c 4 (by decide)]; exact (sdT_add I c 1).symm
theorem sd10 : Sd I 9 (frm 9 c) = Sd I 10 c := by
  rw [Sd_B I _ 9 (by decide), Sd_B I _ 10 (by decide), frm_B c 9 (by decide)]; exact (sdB_add I c 0).symm
theorem sd11 : Sd I 10 (frm 10 c) = Sd I 11 c := by
  rw [Sd_B I _ 10 (by decide), Sd_B I _ 11 (by decide), frm_B c 10 (by decide)]; exact (sdB_add I c 1).symm
theorem pass_on {k k' : Fin 12} (hs : dstI k = srcI k') (e : Sd I k (frm k c) = Sd I k' c) : got I c k ⊢ own c (slotM (srcI k')) fullShare (Sd I k' c) := by
  unfold got; rw [hs, e]

theorem finT0 : k0_pay48 (Sd I 4 c) = finT I c 0 := by
  rw [← sd4, Sd_T I _ 3 (by decide), frm_T c 3 (by decide)]; rfl
theorem finT1 : k0_pay50 (Sd I 5 c) = finT I c 1 := by
  rw [← sd5, Sd_T I _ 4 (by decide), frm_T c 4 (by decide)]; rfl
theorem finT2 : k0_pay3 (Sd I 5 (frm 5 c)) = finT I c 2 := by
  rw [Sd_T I _ 5 (by decide), frm_T c 5 (by decide)]; rfl
theorem finT3 : k0_pay46 (Sd I 3 c) = finT I c 3 := by
  rw [Sd_T I _ 3 (by decide)]; rfl
theorem finB0 : k0_pay49 (Sd I 10 c) = finB I c 0 := by
  rw [← sd10, Sd_B I _ 9 (by decide), frm_B c 9 (by decide)]; rfl
theorem finB1 : k0_pay51 (Sd I 11 c) = finB I c 1 := by
  rw [← sd11, Sd_B I _ 10 (by decide), frm_B c 10 (by decide)]; rfl
theorem finB2 : k0_pay4 (Sd I 11 (frm 11 c)) = finB I c 2 := by
  rw [Sd_B I _ 11 (by decide), frm_B c 11 (by decide)]; rfl
theorem finB3 : k0_pay47 (Sd I 9 c) = finB I c 3 := by
  rw [Sd_B I _ 9 (by decide)]; rfl

set_option maxHeartbeats 1600000 in
theorem point10 (hi : (i 0).val = 10) (O : S2048x1024.Idx → Elt F .bf16) {Q : PUnit → sProp 𝕄} :
    iprop(pers I K ∗ owesE c (Ox c [3, 9, 4, 10, 5, 11]) ∗ h I c 2 8 ∗ toGather c ∗ rows3 c arg1 arg3 (Memref.whole cc0_scratch1) (probs I c) (I.rt c) (I.x c) ∗ own c (Memref.whole cc0_scratch2) fullShare (stack I c) ∗ own c arg5 fullShare (I.sw c) ∗ own c arg6 fullShare O)
      ⊢ iprop(((owesE c (Ox c []) ∗ d c 2 8 ∗ gathered c ∗ rows3 c arg1 arg3 (Memref.whole cc0_scratch1) (probs I c) (I.rt c) (I.x c) ∗ own c (Memref.whole cc0_scratch2) fullShare (stack I c) ∗ own c arg5 fullShare (I.sw c) ∗ own c arg6 fullShare (result I c)) -∗ Q ⟨⟩)
        -∗ run c (cc0_body i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q) := by
  have hp : pass i = 3 := by unfold pass; omega
  have h1 : ¬ k0_cond1 i = 1#1 := by rw [cond1]; omega
  have h2 : ¬ k0_cond2 i = 1#1 := by rw [cond2]; omega
  have h3 : ¬ k0_cond3 i = 1#1 := by rw [cond3]; omega
  have h4 : k0_cond4 i = 1#1 := by rw [cond4]; omega
  have h5 : k0_cond5 i = 1#1 := by rw [cond5]; omega
  have h6 : ¬ k0_cond6 i = 1#1 := by rw [cond6]; omega
  have h7 : ¬ k0_cond7 i = 1#1 := by rw [cond7]; omega
  have h8 : ¬ k0_cond8 i = 1#1 := by rw [cond8]; omega
  have h9 : k0_cond9 i = 1#1 := by rw [cond9]; omega
  rw [cc0_body_eq_skeleton]; unfold cc0_body_skel
  rw [run_bind, k0_part25_eq_skeleton]; unfold k0_part25_skel
  simp only [Prog.lift, Prog.bind_op, Prog.bind_ret, Prog.pure_eq_ret, Prog.bind_assoc, semSignalWord, semWaitWord, run_deviceId, dif_neg h1, dif_neg h2, dif_neg h3, dif_pos h4, dif_pos h5, dif_neg h6, dif_neg h7, dif_neg h8, dif_pos h9]
  unfold h toGather d gathered
  iintro ⟨#HP, HO, ⟨Hh2, Hh8⟩, ⟨Hf3, Hf9, Hf4, Hf10, Hf5, Hf11, Hz3, Hz9⟩, H3, H9, H5, H6⟩ Hk
  rw [run_bind]
  iapply (fused10 (E := stack I c) (O := O)) $$ [H3 H9 H6]
  · isplitl [H3]; · iexact H3
    isplitl [H9]; · iexact H9
    iexact H6
  iintro ⟨H3, H9, H6⟩
  iapply (ld rfl) $$ H6
  iintro H6
  iapply (st (wr_blk (bB (pass i) c) _ (off17 i c) _ _)) $$ H6
  iintro H6
  iapply run_ret
  try dsimp only
  rw [run_bind, k0_part16_eq_skeleton]; unfold k0_part16_skel
  simp only [Prog.lift, Prog.bind_op, Prog.bind_ret, Prog.pure_eq_ret, Prog.bind_assoc]
  iapply (ld (rd_all (I.sw c) z2 _)) $$ H5
  iintro H5
  iapply (end_send I K 2 [3, 9, 4, 10, 5, 11] (by decide) credit_at) $$ [HO Hh2]
  · isplitr; · iexact HP
    isplitl [HO]; · iexact HO
    iexact Hh2
  iintro ⟨HO, Hs2⟩
  iapply (end_recv I K 2 [3, 9, 4, 10, 5, 11] (by decide) (by decide) credit_at) $$ [HO Hs2]
  · isplitr; · iexact HP
    isplitl [HO]; · iexact HO
    iexact Hs2
  iintro ⟨HO, Ho2, Hg2⟩
  iapply (ld_got I 2 (by decide)) $$ Hg2
  iintro Hg2
  iapply (ld ((rd_blk (bT (pass i) c) _ (off24 i c) _).trans (show _ = passT I c 3 by rw [blk_setBlk_ne (bT_ne_bB _ _ _ _), blk_setBlk]; unfold passT wpos; rw [hp]))) $$ H6
  iintro H6
  iapply (ld_x (bT 3 c) ((off24 i c).trans (by rw [hp]))) $$ H3
  iintro H3
  iapply run_ret
  try dsimp only
  rw [run_bind, k0_part17_eq_skeleton]; unfold k0_part17_skel
  simp only [Prog.lift, Prog.bind_op, Prog.bind_ret, Prog.pure_eq_ret, Prog.bind_assoc]
  iapply (fill I 3 (by decide) (fun _ => sd3 I c)) $$ Hz3
  iintro Hd3 %y3
  iapply (end_send I K 8 [3, 9, 4, 10, 5, 11] (by decide) credit_at) $$ [HO Hh8]
  · isplitr; · iexact HP
    isplitl [HO]; · iexact HO
    iexact Hh8
  iintro ⟨HO, Hs8⟩
  iapply (end_recv I K 8 [3, 9, 4, 10, 5, 11] (by decide) (by decide) credit_at) $$ [HO Hs8]
  · isplitr; · iexact HP
    isplitl [HO]; · iexact HO
    iexact Hs8
  iintro ⟨HO, Ho8, Hg8⟩
  iapply (ld_got I 8 (by decide)) $$ Hg8
  iintro Hg8
  iapply (ld ((rd_blk (bB (pass i) c) _ (off25 i c) _).trans (show _ = passB I c 3 by rw [blk_setBlk]; unfold passB wpos; rw [hp]))) $$ H6
  iintro H6
  iapply (ld_x (bB 3 c) ((off25 i c).trans (by rw [hp]))) $$ H3
  iintro H3
  iapply run_ret
  try dsimp only
  rw [run_bind, k0_part18_eq_skeleton]; unfold k0_part18_skel
  simp only [Prog.lift, Prog.bind_op, Prog.bind_ret, Prog.pure_eq_ret, Prog.bind_assoc]
  iapply (fill I 9 (by decide) (fun _ => sd9 I c)) $$ Hz9
  iintro Hd9 %y9
  iapply (begin_send I K 3 [9, 4, 10, 5, 11] (Fin.ext (dev9 c)) (by decide) (by decide) (by decide)) $$ [HO Hf3 Hd3]
  · isplitr; · iexact HP
    isplitl [HO]; · iexact HO
    isplitl [Hf3]; · iexact Hf3
    iexact Hd3
  iintro ⟨HO, Hh3⟩
  iapply run_ret
  try dsimp only
  rw [run_bind, k0_part19_eq_skeleton]; unfold k0_part19_skel
  simp only [Prog.lift, Prog.bind_op, Prog.bind_ret, Prog.pure_eq_ret, Prog.bind_assoc]
  iapply (begin_send I K 9 [4, 10, 5, 11] (Fin.ext (dev10 c)) (by decide) (by decide) (by decide)) $$ [HO Hf9 Hd9]
  · isplitr; · iexact HP
    isplitl [HO]; · iexact HO
    isplitl [Hf9]; · iexact Hf9
    iexact Hd9
  iintro ⟨HO, Hh9⟩
  iapply (ld_half I 3 (by decide)) $$ Hh3
  iintro Hh3
  iapply (ld rfl) $$ H6
  iintro H6
  iapply (st ((wr_blk (bT 3 c) _ (off26 c 0) _ _).trans (congrArg (setBlk (bT 3 c) _) (finT3 I c)))) $$ H6
  iintro H6
  iapply (ld_half I 9 (by decide)) $$ Hh9
  iintro Hh9
  iapply (ld rfl) $$ H6
  iintro H6
  iapply (st ((wr_blk (bB 3 c) _ (off27 c 2) _ _).trans (congrArg (setBlk (bB 3 c) _) (finB3 I c)))) $$ H6
  iintro H6
  iapply (end_send I K 3 [4, 10, 5, 11] (by decide) credit_at) $$ [HO Hh3]
  · isplitr; · iexact HP
    isplitl [HO]; · iexact HO
    iexact Hh3
  iintro ⟨HO, Hs3⟩
  iapply run_ret
  try dsimp only
  rw [run_bind, k0_part20_eq_skeleton]; unfold k0_part20_skel
  simp only [Prog.lift, Prog.bind_op, Prog.bind_ret, Prog.pure_eq_ret, Prog.bind_assoc]
  iapply (end_recv I K 3 [4, 10, 5, 11] (by decide) (by decide) credit_at) $$ [HO Hs3]
  · isplitr; · iexact HP
    isplitl [HO]; · iexact HO
    iexact Hs3
  iintro ⟨HO, Ho3, Hg3⟩
  iapply (end_send I K 9 [4, 10, 5, 11] (by decide) credit_at) $$ [HO Hh9]
  · isplitr; · iexact HP
    isplitl [HO]; · iexact HO
    iexact Hh9
  iintro ⟨HO, Hs9⟩
  iapply (end_recv I K 9 [4, 10, 5, 11] (by decide) (by decide) credit_at) $$ [HO Hs9]
  · isplitr; · iexact HP
    isplitl [HO]; · iexact HO
    iexact Hs9
  iintro ⟨HO, Ho9, Hg9⟩
  ihave Hd4 := (pass_on I c (by decide) (sd4 I c)) $$ Hg3
  iapply (begin_send I K 4 [10, 5, 11] (Fin.ext (dev11 c)) (by decide) (by decide) (by decide)) $$ [HO Hf4 Hd4]
  · isplitr; · iexact HP
    isplitl [HO]; · iexact HO
    isplitl [Hf4]; · iexact Hf4
    iexact Hd4
  iintro ⟨HO, Hh4⟩
  iapply run_ret
  try dsimp only
  rw [run_bind, k0_part21_eq_skeleton]; unfold k0_part21_skel
  simp only [Prog.lift, Prog.bind_op, Prog.bind_ret, Prog.pure_eq_ret, Prog.bind_assoc]
  ihave Hd10 := (pass_on I c (by decide) (sd10 I c)) $$ Hg9
  iapply (begin_send I K 10 [5, 11] (Fin.ext (dev12 c)) (by decide) (by decide) (by decide)) $$ [HO Hf10 Hd10]
  · isplitr; · iexact HP
    isplitl [HO]; · iexact HO
    isplitl [Hf10]; · iexact Hf10
    iexact Hd10
  iintro ⟨HO, Hh10⟩
  iapply (ld_half I 4 (by decide)) $$ Hh4
  iintro Hh4
  iapply (ld rfl) $$ H6
  iintro H6
  iapply (st ((wr_blk (bT 0 c) _ (off28 c) _ _).trans (congrArg (setBlk (bT 0 c) _) (finT0 I c)))) $$ H6
  iintro H6
  iapply (ld_half I 10 (by decide)) $$ Hh10
  iintro Hh10
  iapply (ld rfl) $$ H6
  iintro H6
  iapply (st ((wr_blk (bB 0 c) _ (off29 c) _ _).trans (congrArg (setBlk (bB 0 c) _) (finB0 I c)))) $$ H6
  iintro H6
  iapply (end_send I K 4 [5, 11] (by decide) credit_at) $$ [HO Hh4]
  · isplitr; · iexact HP
    isplitl [HO]; · iexact HO
    iexact Hh4
  iintro ⟨HO, Hs4⟩
  iapply run_ret
  try dsimp only
  rw [run_bind, k0_part22_eq_skeleton]; unfold k0_part22_skel
  simp only [Prog.lift, Prog.bind_op, Prog.bind_ret, Prog.pure_eq_ret, Prog.bind_assoc]
  iapply (end_recv I K 4 [5, 11] (by decide) (by decide) credit_at) $$ [HO Hs4]
  · isplitr; · iexact HP
    isplitl [HO]; · iexact HO
    iexact Hs4
  iintro ⟨HO, Ho4, Hg4⟩
  iapply (end_send I K 10 [5, 11] (by decide) credit_at) $$ [HO Hh10]
  · isplitr; · iexact HP
    isplitl [HO]; · iexact HO
    iexact Hh10
  iintro ⟨HO, Hs10⟩
  iapply (end_recv I K 10 [5, 11] (by decide) (by decide) credit_at) $$ [HO Hs10]
  · isplitr; · iexact HP
    isplitl [HO]; · iexact HO
    iexact Hs10
  iintro ⟨HO, Ho10, Hg10⟩
  iapply run_ret
  try dsimp only
  rw [run_bind, k0_part23_eq_skeleton]; unfold k0_part23_skel
  simp only [Prog.lift, Prog.bind_op, Prog.bind_ret, Prog.pure_eq_ret, Prog.bind_assoc]
  ihave Hd5 := (pass_on I c (by decide) (sd5 I c)) $$ Hg4
  iapply (begin_send I K 5 [11] (Fin.ext (dev13 c)) (by decide) (by decide) (by decide)) $$ [HO Hf5 Hd5]
  · isplitr; · iexact HP
    isplitl [HO]; · iexact HO
    isplitl [Hf5]; · iexact Hf5
    iexact Hd5
  iintro ⟨HO, Hh5⟩
  ihave Hd11 := (pass_on I c (by decide) (sd11 I c)) $$ Hg10
  iapply (begin_send I K 11 [] (Fin.ext (dev14 c)) (by decide) (by decide) (by decide)) $$ [HO Hf11 Hd11]
  · isplitr; · iexact HP
    isplitl [HO]; · iexact HO
    isplitl [Hf11]; · iexact Hf11
    iexact Hd11
  iintro ⟨HO, Hh11⟩
  iapply (ld_half I 5 (by decide)) $$ Hh5
  iintro Hh5
  iapply (ld rfl) $$ H6
  iintro H6
  iapply (st ((wr_blk (bT 1 c) _ (off26 c 2) _ _).trans (congrArg (setBlk (bT 1 c) _) (finT1 I c)))) $$ H6
  iintro H6
  iapply (ld_half I 11 (by decide)) $$ Hh11
  iintro Hh11
  iapply (ld rfl) $$ H6
  iintro H6
  iapply (st ((wr_blk (bB 1 c) _ (off27 c 0) _ _).trans (congrArg (setBlk (bB 1 c) _) (finB1 I c)))) $$ H6
  iintro H6
  iapply run_ret
  try dsimp only
  rw [run_bind, k0_part24_eq_skeleton]; unfold k0_part24_skel
  simp only [Prog.lift, Prog.bind_op, Prog.bind_ret, Prog.pure_eq_ret, Prog.bind_assoc]
  iapply (end_send I K 5 [] (by decide) credit_at) $$ [HO Hh5]
  · isplitr; · iexact HP
    isplitl [HO]; · iexact HO
    iexact Hh5
  iintro ⟨HO, Hs5⟩
  iapply (end_recv I K 5 [] (by decide) (by decide) credit_at) $$ [HO Hs5]
  · isplitr; · iexact HP
    isplitl [HO]; · iexact HO
    iexact Hs5
  iintro ⟨HO, Ho5, Hg5⟩
  iapply (end_send I K 11 [] (by decide) credit_at) $$ [HO Hh11]
  · isplitr; · iexact HP
    isplitl [HO]; · iexact HO
    iexact Hh11
  iintro ⟨HO, Hs11⟩
  iapply run_ret
  try dsimp only
  iapply (end_recv I K 11 [] (by decide) (by decide) credit_at) $$ [HO Hs11]
  · isplitr; · iexact HP
    isplitl [HO]; · iexact HO
    iexact Hs11
  iintro ⟨HO, Ho11, Hg11⟩
  iapply (ld_got I 5 (by decide)) $$ Hg5
  iintro Hg5
  iapply (ld rfl) $$ H6
  iintro H6
  iapply (st ((wr_blk (bT 2 c) _ (off26 c 1) _ _).trans (congrArg (setBlk (bT 2 c) _) (finT2 I c)))) $$ H6
  iintro H6
  iapply (ld_got I 11 (by decide)) $$ Hg11
  iintro Hg11
  iapply (ld rfl) $$ H6
  iintro H6
  iapply (st ((wr_blk (bB 2 c) _ (off27 c 1) _ _).trans (congrArg (setBlk (bB 2 c) _) (finB2 I c)))) $$ H6
  iintro H6
  iapply run_ret
  iapply Hk
  isplitl [HO]; · iexact HO
  isplitl [Ho2 Ho8 Hg2 Hg8]
  · isplitl [Ho2]; · iexact Ho2
    isplitl [Ho8]; · iexact Ho8
    isplitl [Hg2]; · iapply (got_slot I 2); iexact Hg2
    iapply (got_slot I 8); iexact Hg8
  isplitl [Ho3 Ho9 Ho4 Ho10 Ho5 Ho11 Hg5 Hg11]
  · isplitl [Ho3]; · iexact Ho3
    isplitl [Ho9]; · iexact Ho9
    isplitl [Ho4]; · iexact Ho4
    isplitl [Ho10]; · iexact Ho10
    isplitl [Ho5]; · iexact Ho5
    isplitl [Ho11]; · iexact Ho11
    isplitl [Hg5]; · iapply (got_slot I 5); iexact Hg5
    iapply (got_slot I 11); iexact Hg11
  isplitl [H3]; · iexact H3
  isplitl [H9]; · iexact H9
  isplitl [H5]; · iexact H5
  rw [← filled I c]
  iexact H6

end Cert.Moe

end
-- ==== Proof.Early.lean ====
/-
# The points of the experts

What each of the grid's first eight points does on a device: the signals and the probabilities at the first, one expert at every one,
the first transfers at the last.
-/
module

public import proofs.«01_k».proof.Proof.Late

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (c : Dev nD) (K : Dev nD × Fin 25 → ℕ) (i : grid0.Coords) (arg1 : Memref sig .tc .vmem S2048x1024 .bf16) (harg1 : arg1.IsWhole) (arg2 : Memref sig .tc .vmem S1024x32 .bf16) (harg2 : arg2.IsWhole) (arg3 : Memref sig .tc .vmem S2048x1 .i32) (harg3 : arg3.IsWhole)
  (arg4 : Memref sig .tc .vmem S1x1024x1024 .bf16) (harg4 : arg4.IsWhole) (arg5 : Memref sig .tc .vmem S1024x1024 .bf16) (harg5 : arg5.IsWhole) (arg6 : Memref sig .tc .vmem S2048x1024 .bf16) (harg6 : arg6.IsWhole)

theorem pointS (s : ℕ) (hi : (i 0).val = s + 1) (hs7 : s + 1 < 7) {E : S8192x1024.Idx → Elt F .bf16} {O : S2048x1024.Idx → Elt F .bf16} (hE : Stacked I c (s + 1) E)
    (hT : blk (bT 0 c) O = accT I c s) (hB : blk (bB 0 c) O = accB I c s) {Q : PUnit → sProp 𝕄} :
    iprop(rows3 c arg1 arg3 (Memref.whole cc0_scratch1) (probs I c) (I.rt c) (I.x c) ∗ own c arg4 fullShare (I.w c (fin8 (s + 1))) ∗ own c (Memref.whole cc0_scratch2) fullShare E ∗ own c arg6 fullShare O)
      ⊢ iprop(((rows3 c arg1 arg3 (Memref.whole cc0_scratch1) (probs I c) (I.rt c) (I.x c) ∗ own c arg4 fullShare (I.w c (fin8 (s + 1))) ∗ (∃ E', ⌜Stacked I c (s + 1 + 1) E'⌝ ∗ own c (Memref.whole cc0_scratch2) fullShare E') ∗ (∃ O', ⌜blk (bT 0 c) O' = accT I c (s + 1) ∧ blk (bB 0 c) O' = accB I c (s + 1)⌝ ∗ own c arg6 fullShare O')) -∗ Q ⟨⟩)
        -∗ run c (cc0_body i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q) := by
  have hp : pass i = 0 := by unfold pass; omega
  have hs : s + 1 < 8 := by omega
  have hoff : k0_off1 i = ![1024 * (⟨s + 1, hs⟩ : Fin 8).val, 0] := by rw [k0_off1_eq, hi]
  have h1 : ¬ k0_cond1 i = 1#1 := by rw [cond1]; omega
  have h2 : k0_cond2 i = 1#1 := by rw [cond2]; omega
  have h3 : ¬ k0_cond3 i = 1#1 := by rw [cond3]; omega
  have h4 : k0_cond4 i = 1#1 := by rw [cond4]; omega
  have h5 : ¬ k0_cond5 i = 1#1 := by rw [cond5]; omega
  have h6 : ¬ k0_cond6 i = 1#1 := by rw [cond6]; omega
  have h7 : ¬ k0_cond7 i = 1#1 := by rw [cond7]; omega
  have h8 : ¬ k0_cond8 i = 1#1 := by rw [cond8]; omega
  have h9 : ¬ k0_cond9 i = 1#1 := by rw [cond9]; omega
  rw [cc0_body_eq_skeleton]; unfold cc0_body_skel
  rw [run_bind, k0_part25_eq_skeleton]; unfold k0_part25_skel
  simp only [Prog.lift, Prog.bind_op, Prog.bind_ret, Prog.pure_eq_ret, Prog.bind_assoc, semSignalWord, semWaitWord, run_deviceId, dif_neg h1, dif_pos h2, dif_neg h3, dif_pos h4, dif_neg h5, dif_neg h6, dif_neg h7, dif_neg h8, dif_neg h9]
  rw [hi]
  iintro ⟨H3, H4, H9, H6⟩ Hk
  rw [run_bind, k0_part1_eq_skeleton]; unfold k0_part1_skel
  simp only [Prog.lift, Prog.bind_op, Prog.bind_ret, Prog.pure_eq_ret, Prog.bind_assoc]
  iapply (ld (rd_all _ z3 _)) $$ H4
  iintro H4
  iapply (ld rfl) $$ H9
  iintro H9
  iapply (st (wr_wblk ⟨s + 1, hs⟩ E hoff _ (wj I c (s + 1)))) $$ H9
  iintro H9
  iapply (ld ((rd_wblk ⟨s + 1, hs⟩ _ hoff _).trans (wblk_setW ⟨s + 1, hs⟩ E (wj I c (s + 1))))) $$ H9
  iintro H9
  iapply (ld_p (bT 0 c) ((off2 i c).trans (by rw [hp]))) $$ H3
  iintro H3
  iapply (ld_r (bT 0 c) ((off3 i c).trans (by rw [hp]))) $$ H3
  iintro H3
  iapply (ld_x (bT 0 c) ((off4 i c).trans (by rw [hp]))) $$ H3
  iintro H3
  iapply (ld_p (bB 0 c) ((off5 i c).trans (by rw [hp]))) $$ H3
  iintro H3
  iapply run_ret
  try dsimp only
  iapply (ld_r (bB 0 c) ((off6 i c).trans (by rw [hp]))) $$ H3
  iintro H3
  iapply (ld_x (bB 0 c) ((off7 i c).trans (by rw [hp]))) $$ H3
  iintro H3
  iapply (ld ((rd_blk (bT 0 c) O ((off10 i c).trans (by rw [hp])) _).trans hT)) $$ H6
  iintro H6
  iapply (ld rfl) $$ H6
  iintro H6
  iapply (st (wr_blk (bT 0 c) O ((off10 i c).trans (by rw [hp])) _ (accT I c (s + 1)))) $$ H6
  iintro H6
  iapply (ld ((rd_blk (bB 0 c) _ ((off11 i c).trans (by rw [hp])) _).trans ((blk_setBlk_ne (bB_ne_bT _ _ _ _) _ _).trans hB))) $$ H6
  iintro H6
  iapply (ld rfl) $$ H6
  iintro H6
  iapply (st (wr_blk (bB 0 c) _ ((off11 i c).trans (by rw [hp])) _ (accB I c (s + 1)))) $$ H6
  iintro H6
  iapply run_ret
  try dsimp only
  iapply run_ret
  iapply Hk
  isplitl [H3]; · iexact H3
  isplitl [H4]; · iexact H4
  isplitl [H9]
  · iexists _; isplitr; · ipureintro; exact stacked_step I hs hE
    iexact H9
  iexists (setBlk (bB 0 c) (setBlk (bT 0 c) O (accT I c (s + 1))) (accB I c (s + 1))); isplitr
  · ipureintro; exact ⟨(blk_setBlk_ne (bT_ne_bB _ _ _ _) _ _).trans (blk_setBlk _ _ _), blk_setBlk _ _ _⟩
  iexact H6

theorem point7 (hi : (i 0).val = 6 + 1) {E : S8192x1024.Idx → Elt F .bf16} {O : S2048x1024.Idx → Elt F .bf16} (hE : Stacked I c (6 + 1) E)
    (hT : blk (bT 0 c) O = accT I c 6) (hB : blk (bB 0 c) O = accB I c 6) {Q : PUnit → sProp 𝕄} :
    iprop(pers I K ∗ owesE c (Ox c order) ∗ g c 0 6 ∗ rows3 c arg1 arg3 (Memref.whole cc0_scratch1) (probs I c) (I.rt c) (I.x c) ∗ own c arg4 fullShare (I.w c (fin8 (6 + 1))) ∗ own c (Memref.whole cc0_scratch2) fullShare E ∗ own c arg6 fullShare O)
      ⊢ iprop(((owesE c (Ox c [1, 7, 2, 8, 3, 9, 4, 10, 5, 11]) ∗ h I c 0 6 ∗ rows3 c arg1 arg3 (Memref.whole cc0_scratch1) (probs I c) (I.rt c) (I.x c) ∗ own c arg4 fullShare (I.w c (fin8 (6 + 1))) ∗ (∃ E', ⌜Stacked I c (6 + 1 + 1) E'⌝ ∗ own c (Memref.whole cc0_scratch2) fullShare E')
            ∗ ∃ O', own c arg6 fullShare O') -∗ Q ⟨⟩)
        -∗ run c (cc0_body i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q) := by
  have hp : pass i = 0 := by unfold pass; omega
  have hs : 6 + 1 < 8 := by omega
  have hoff : k0_off1 i = ![1024 * (⟨6 + 1, hs⟩ : Fin 8).val, 0] := by rw [k0_off1_eq, hi]
  have h1 : ¬ k0_cond1 i = 1#1 := by rw [cond1]; omega
  have h2 : k0_cond2 i = 1#1 := by rw [cond2]; omega
  have h3 : ¬ k0_cond3 i = 1#1 := by rw [cond3]; omega
  have h4 : k0_cond4 i = 1#1 := by rw [cond4]; omega
  have h5 : ¬ k0_cond5 i = 1#1 := by rw [cond5]; omega
  have h6 : k0_cond6 i = 1#1 := by rw [cond6]; omega
  have h7 : ¬ k0_cond7 i = 1#1 := by rw [cond7]; omega
  have h8 : ¬ k0_cond8 i = 1#1 := by rw [cond8]; omega
  have h9 : ¬ k0_cond9 i = 1#1 := by rw [cond9]; omega
  rw [cc0_body_eq_skeleton]; unfold cc0_body_skel
  rw [run_bind, k0_part25_eq_skeleton]; unfold k0_part25_skel
  simp only [Prog.lift, Prog.bind_op, Prog.bind_ret, Prog.pure_eq_ret, Prog.bind_assoc, semSignalWord, semWaitWord, run_deviceId, dif_neg h1, dif_pos h2, dif_neg h3, dif_pos h4, dif_neg h5, dif_pos h6, dif_neg h7, dif_neg h8, dif_neg h9]
  rw [hi]
  unfold order g h
  iintro ⟨#HP, HO, ⟨Hf0, Hf6, Hz0, Hz6⟩, H3, H4, H9, H6⟩ Hk
  rw [run_bind, k0_part1_eq_skeleton]; unfold k0_part1_skel
  simp only [Prog.lift, Prog.bind_op, Prog.bind_ret, Prog.pure_eq_ret, Prog.bind_assoc]
  iapply (ld (rd_all _ z3 _)) $$ H4
  iintro H4
  iapply (ld rfl) $$ H9
  iintro H9
  iapply (st (wr_wblk ⟨6 + 1, hs⟩ E hoff _ (wj I c (6 + 1)))) $$ H9
  iintro H9
  iapply (ld ((rd_wblk ⟨6 + 1, hs⟩ _ hoff _).trans (wblk_setW ⟨6 + 1, hs⟩ E (wj I c (6 + 1))))) $$ H9
  iintro H9
  iapply (ld_p (bT 0 c) ((off2 i c).trans (by rw [hp]))) $$ H3
  iintro H3
  iapply (ld_r (bT 0 c) ((off3 i c).trans (by rw [hp]))) $$ H3
  iintro H3
  iapply (ld_x (bT 0 c) ((off4 i c).trans (by rw [hp]))) $$ H3
  iintro H3
  iapply (ld_p (bB 0 c) ((off5 i c).trans (by rw [hp]))) $$ H3
  iintro H3
  iapply run_ret
  try dsimp only
  iapply (ld_r (bB 0 c) ((off6 i c).trans (by rw [hp]))) $$ H3
  iintro H3
  iapply (ld_x (bB 0 c) ((off7 i c).trans (by rw [hp]))) $$ H3
  iintro H3
  iapply (ld ((rd_blk (bT 0 c) O ((off10 i c).trans (by rw [hp])) _).trans hT)) $$ H6
  iintro H6
  iapply (ld rfl) $$ H6
  iintro H6
  iapply (st (wr_blk (bT 0 c) O ((off10 i c).trans (by rw [hp])) _ (accT I c (6 + 1)))) $$ H6
  iintro H6
  iapply (ld ((rd_blk (bB 0 c) _ ((off11 i c).trans (by rw [hp])) _).trans ((blk_setBlk_ne (bB_ne_bT _ _ _ _) _ _).trans hB))) $$ H6
  iintro H6
  iapply (ld rfl) $$ H6
  iintro H6
  iapply (st (wr_blk (bB 0 c) _ ((off11 i c).trans (by rw [hp])) _ (accB I c (6 + 1)))) $$ H6
  iintro H6
  rw [run_bind, k0_part11_eq_skeleton]; unfold k0_part11_skel
  simp only [Prog.lift, Prog.bind_op, Prog.bind_ret, Prog.pure_eq_ret, Prog.bind_assoc]
  iapply (ld ((rd_blk (bT 0 c) _ ((off18 i c).trans (by rw [hp])) _).trans ((blk_setBlk_ne (bT_ne_bB _ _ _ _) _ _).trans (blk_setBlk _ _ _)))) $$ H6
  iintro H6
  iapply (fill I 0 (by decide) (fun _ => rfl)) $$ Hz0
  iintro Hd0 %y0
  iapply (begin_send I K 0 [6, 1, 7, 2, 8, 3, 9, 4, 10, 5, 11] (Fin.ext (dev3 c)) (by decide) (by decide) (by decide)) $$ [HO Hf0 Hd0]
  · isplitr; · iexact HP
    isplitl [HO]; · iexact HO
    isplitl [Hf0]; · iexact Hf0
    iexact Hd0
  iintro ⟨HO, Hh0⟩
  iapply (ld ((rd_blk (bB 0 c) _ ((off19 i c).trans (by rw [hp])) _).trans (blk_setBlk _ _ _))) $$ H6
  iintro H6
  iapply (fill I 6 (by decide) (fun _ => rfl)) $$ Hz6
  iintro Hd6 %y6
  iapply run_ret
  try dsimp only
  iapply (begin_send I K 6 [1, 7, 2, 8, 3, 9, 4, 10, 5, 11] (Fin.ext (dev4 c)) (by decide) (by decide) (by decide)) $$ [HO Hf6 Hd6]
  · isplitr; · iexact HP
    isplitl [HO]; · iexact HO
    isplitl [Hf6]; · iexact Hf6
    iexact Hd6
  iintro ⟨HO, Hh6⟩
  iapply run_ret
  try dsimp only
  iapply run_ret
  iapply Hk
  isplitl [HO]; · iexact HO
  isplitl [Hh0 Hh6]; · isplitl [Hh0]; · iexact Hh0
                       iexact Hh6
  isplitl [H3]; · iexact H3
  isplitl [H4]; · iexact H4
  isplitl [H9]
  · iexists _; isplitr; · ipureintro; exact stacked_step I hs hE
    iexact H9
  iexists _; iexact H6

/-- What a device holds before its first point, of the barrier and of the landing slots. -/
def atStart (c : Dev nD) : sProp 𝕄 :=
  iprop(dutyTok ER (barCell (prv c)) 0 true ∗ dutyTok ER (barCell (nxt c)) 0 false ∗ atPos ER (barCell c) 0 ∅ 0 ∗ cred (tallyAt (barCell c) () 2)
    ∗ landsT (F := F) c ∗ landsB (F := F) c)

theorem rows3_mk {P : S2048x32.Idx → Elt F .f32} {R : S2048x1.Idx → Elt F .i32} {X : S2048x1024.Idx → Elt F .bf16} {a1 a3 a8} :
    iprop(own (F := F) c a8 fullShare P ∗ own c a3 fullShare R ∗ own c a1 fullShare X) ⊢ rows3 c a1 a3 a8 P R X := by unfold rows3; exact .rfl

theorem point0 (hi : (i 0).val = 0) {P : S2048x32.Idx → Elt F .f32} {E : S8192x1024.Idx → Elt F .bf16} {O : S2048x1024.Idx → Elt F .bf16} {Q : PUnit → sProp 𝕄} :
    iprop(pers I K ∗ owesE c (O₀ c) ∗ atStart c ∗ (own c (Memref.whole cc0_scratch1) fullShare P ∗ own c arg3 fullShare (I.rt c) ∗ own c arg1 fullShare (I.x c)) ∗ own c arg2 fullShare (I.rw c)
        ∗ own c arg4 fullShare (I.w c (fin8 0)) ∗ own c (Memref.whole cc0_scratch2) fullShare E ∗ own c arg6 fullShare O)
      ⊢ iprop(((owesE c (Ox c order) ∗ (semVal (barCell c) 0 ∗ landsB (F := F) (prv c) ∗ landsT (F := F) (nxt c)) ∗ rows3 c arg1 arg3 (Memref.whole cc0_scratch1) (probs I c) (I.rt c) (I.x c) ∗ own c arg2 fullShare (I.rw c)
            ∗ own c arg4 fullShare (I.w c (fin8 0)) ∗ (∃ E', ⌜Stacked I c (0 + 1) E'⌝ ∗ own c (Memref.whole cc0_scratch2) fullShare E') ∗ (∃ O', ⌜blk (bT 0 c) O' = accT I c (0) ∧ blk (bB 0 c) O' = accB I c (0)⌝ ∗ own c arg6 fullShare O')) -∗ Q ⟨⟩)
        -∗ run c (cc0_body i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q) := by
  have hE : Stacked I c 0 E := fun b hb => absurd hb (Nat.not_lt_zero _)
  have hp : pass i = 0 := by unfold pass; omega
  have hs : 0 < 8 := by omega
  have hoff : k0_off1 i = ![1024 * (⟨0, hs⟩ : Fin 8).val, 0] := by rw [k0_off1_eq, hi]
  have h1 : k0_cond1 i = 1#1 := by rw [cond1]; omega
  have h2 : k0_cond2 i = 1#1 := by rw [cond2]; omega
  have h3 : k0_cond3 i = 1#1 := by rw [cond3]; omega
  have h4 : ¬ k0_cond4 i = 1#1 := by rw [cond4]; omega
  have h5 : ¬ k0_cond5 i = 1#1 := by rw [cond5]; omega
  have h6 : ¬ k0_cond6 i = 1#1 := by rw [cond6]; omega
  have h7 : ¬ k0_cond7 i = 1#1 := by rw [cond7]; omega
  have h8 : ¬ k0_cond8 i = 1#1 := by rw [cond8]; omega
  have h9 : ¬ k0_cond9 i = 1#1 := by rw [cond9]; omega
  rw [cc0_body_eq_skeleton]; unfold cc0_body_skel
  rw [run_bind, k0_part25_eq_skeleton]; unfold k0_part25_skel
  simp only [Prog.lift, Prog.bind_op, Prog.bind_ret, Prog.pure_eq_ret, Prog.bind_assoc, semSignalWord, semWaitWord, run_deviceId, dif_pos h1, dif_pos h2, dif_pos h3, dif_neg h4, dif_neg h5, dif_neg h6, dif_neg h7, dif_neg h8, dif_neg h9]
  rw [hi]
  unfold atStart
  iintro ⟨#HP, HO, ⟨Ht, Hb, Ha, Hc, Hlt, Hlb⟩, ⟨Hp, Hr, Hx⟩, H2, H4, H9, H6⟩ Hk
  iapply (sig_prv I K (n' := ⟨k0_dev1 c, k0_dev1_lt i c h1⟩) (Fin.ext (dev1 c)) rfl) $$ [HO Ht Hlt]
  · isplitr; · iexact HP
    isplitl [HO]; · iexact HO
    isplitl [Ht]; · iexact Ht
    iexact Hlt
  iintro HO
  iapply (sig_nxt I K (n' := ⟨k0_dev2 c, k0_dev2_lt i c h1⟩) (Fin.ext (dev2 c)) rfl) $$ [HO Hb Hlb]
  · isplitr; · iexact HP
    isplitl [HO]; · iexact HO
    isplitl [Hb]; · iexact Hb
    iexact Hlb
  iintro HO
  iapply (wait_bar I K rfl) $$ [HO Ha Hc]
  · isplitr; · iexact HP
    isplitl [HO]; · iexact HO
    isplitl [Ha]; · iexact Ha
    iexact Hc
  iintro ⟨HO, Hv, Hlb, Hlt⟩
  iapply (ld (rd_all _ z2 _)) $$ Hx
  iintro Hx
  iapply (ld (rd_all _ z2 _)) $$ H2
  iintro H2
  iapply (ld (rd_all _ z2 _)) $$ Hp
  iintro Hp
  iapply (st (wr_all P (probs I c) z2 _)) $$ Hp
  iintro Hp
  ihave H3 := (rows3_mk c (P := probs I c) (R := I.rt c) (X := I.x c) (a1 := arg1) (a3 := arg3) (a8 := Memref.whole cc0_scratch1)) $$ [Hp Hr Hx]
  · isplitl [Hp]; · iexact Hp
    isplitl [Hr]; · iexact Hr
    iexact Hx
  rw [run_bind, k0_part1_eq_skeleton]; unfold k0_part1_skel
  simp only [Prog.lift, Prog.bind_op, Prog.bind_ret, Prog.pure_eq_ret, Prog.bind_assoc]
  iapply (ld (rd_all _ z3 _)) $$ H4
  iintro H4
  iapply (ld rfl) $$ H9
  iintro H9
  iapply (st (wr_wblk ⟨0, hs⟩ E hoff _ (wj I c (0)))) $$ H9
  iintro H9
  iapply (ld ((rd_wblk ⟨0, hs⟩ _ hoff _).trans (wblk_setW ⟨0, hs⟩ E (wj I c (0))))) $$ H9
  iintro H9
  iapply (ld_p (bT 0 c) ((off2 i c).trans (by rw [hp]))) $$ H3
  iintro H3
  iapply (ld_r (bT 0 c) ((off3 i c).trans (by rw [hp]))) $$ H3
  iintro H3
  iapply (ld_x (bT 0 c) ((off4 i c).trans (by rw [hp]))) $$ H3
  iintro H3
  iapply (ld_p (bB 0 c) ((off5 i c).trans (by rw [hp]))) $$ H3
  iintro H3
  iapply run_ret
  try dsimp only
  iapply (ld_r (bB 0 c) ((off6 i c).trans (by rw [hp]))) $$ H3
  iintro H3
  iapply (ld_x (bB 0 c) ((off7 i c).trans (by rw [hp]))) $$ H3
  iintro H3
  iapply (ld rfl) $$ H6
  iintro H6
  iapply (st (wr_blk (bT 0 c) O ((off8 i c).trans (by rw [hp])) _ (accT I c 0))) $$ H6
  iintro H6
  iapply (ld rfl) $$ H6
  iintro H6
  iapply (st (wr_blk (bB 0 c) _ ((off9 i c).trans (by rw [hp])) _ (accB I c 0))) $$ H6
  iintro H6
  iapply run_ret
  try dsimp only
  iapply run_ret
  iapply Hk
  isplitl [HO]; · iexact HO
  isplitl [Hv Hlb Hlt]
  · isplitl [Hv]; · iexact Hv
    isplitl [Hlb]; · iexact Hlb
    iexact Hlt
  isplitl [H3]; · iexact H3
  isplitl [H2]; · iexact H2
  isplitl [H4]; · iexact H4
  isplitl [H9]
  · iexists _; isplitr; · ipureintro; exact stacked_step I hs hE
    iexact H9
  iexists (setBlk (bB 0 c) (setBlk (bT 0 c) O (accT I c (0))) (accB I c (0))); isplitr
  · ipureintro; exact ⟨(blk_setBlk_ne (bT_ne_bB _ _ _ _) _ _).trans (blk_setBlk _ _ _), blk_setBlk _ _ _⟩
  iexact H6

end Cert.Moe

end
-- ==== Proof.Body.lean ====
/-
# The body at every point

What a device holds between the points (`Phi`), what it owes then (`owedAt`), and that the body takes it from each point to the
next.  The result's staging buffer starts at contents nothing states, so it is followed by a relation (`left`): at points 0 to 6
the device's own rows hold the sums so far, at point 10 the whole holds the result.
-/
module

public import proofs.«01_k».proof.Proof.Early
public import proofs.«01_k».proof.Proof.Gen.KernelIdeal.Frame
public import Idealize.ShloMosaic.Lib.Pipeline.DatRel

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [FloatOps F]

local notation "𝕄" => MT nD τ sig Unit (Elt F) ℕ UU ℕ

/-! ## The states between the points -/

section
variable (I : Ins F) (c : Dev nD)

/-- Before the first point. -/
def startOf : sProp 𝕄 :=
  iprop(∃ K, pers I K ∗ (dutyTok ER (barCell (prv c)) 0 true ∗ dutyTok ER (barCell (nxt c)) 0 false ∗ atPos ER (barCell c) 0 ∅ 0 ∗ cred (tallyAt (barCell c) () 2))
    ∗ (bigSep Finset.univ fun k : Fin 12 => pre (F := F) c k))

def Phi0 : sProp 𝕄 :=
  iprop(startOf I c ∗ (bigSep Finset.univ fun i : Fin 20 => slot (F := F) c i)
    ∗ (∃ P, own (F := F) c (Memref.whole cc0_scratch1) fullShare P) ∗ ∃ E, own (F := F) c (Memref.whole cc0_scratch2) fullShare E)

/-- Before an expert's point after the first: `n` experts are stacked. -/
def PhiE (n : ℕ) : sProp 𝕄 :=
  iprop(∃ K, pers I K ∗ semVal (barCell c) 0 ∗ (g (F := F) c 0 6 ∗ g (F := F) c 1 7 ∗ g (F := F) c 2 8 ∗ toGather (F := F) c)
    ∗ own c (Memref.whole cc0_scratch1) fullShare (probs I c) ∗ ∃ E, ⌜Stacked I c n E⌝ ∗ own c (Memref.whole cc0_scratch2) fullShare E)

/-- Later, the transfers in the state `T`. -/
def PhiL (T : sProp 𝕄) : sProp 𝕄 :=
  iprop(∃ K, pers I K ∗ semVal (barCell c) 0 ∗ T
    ∗ own c (Memref.whole cc0_scratch1) fullShare (probs I c) ∗ own c (Memref.whole cc0_scratch2) fullShare (stack I c))

def Phi : ℕ → sProp 𝕄
  | 0 => Phi0 I c
  | 8 => PhiL I c iprop(h I c 0 6 ∗ g (F := F) c 1 7 ∗ g (F := F) c 2 8 ∗ toGather (F := F) c)
  | 9 => PhiL I c iprop(d (F := F) c 0 6 ∗ h I c 1 7 ∗ g (F := F) c 2 8 ∗ toGather (F := F) c)
  | 10 => PhiL I c iprop(d (F := F) c 0 6 ∗ d (F := F) c 1 7 ∗ h I c 2 8 ∗ toGather (F := F) c)
  | 11 => PhiL I c iprop(d (F := F) c 0 6 ∗ d (F := F) c 1 7 ∗ d (F := F) c 2 8 ∗ gathered (F := F) c)
  | n => PhiE I c n

def owedAt : ℕ → CellTallies nD τ sig Unit
  | 0 => O₀ c
  | 8 => Ox c [1, 7, 2, 8, 3, 9, 4, 10, 5, 11]
  | 9 => Ox c [2, 8, 3, 9, 4, 10, 5, 11]
  | 10 => Ox c [3, 9, 4, 10, 5, 11]
  | 11 => Ox c []
  | n => Ox c order

theorem Phi_E (s : ℕ) (hs : s < 7) : Phi I c (s + 1) = PhiE I c (s + 1) :=
  match s, hs with
  | 0, _ | 1, _ | 2, _ | 3, _ | 4, _ | 5, _ | 6, _ => rfl
theorem owedAt_E (s : ℕ) (hs : s < 7) : owedAt c (s + 1) = Ox c order :=
  match s, hs with
  | 0, _ | 1, _ | 2, _ | 3, _ | 4, _ | 5, _ | 6, _ => rfl

/-- What the result's staging buffer holds after point `n`. -/
def left (n : ℕ) (O : S2048x1024.Idx → Elt F .bf16) : Prop :=
  if n ≤ 6 then blk (bT 0 c) O = accT I c n ∧ blk (bB 0 c) O = accB I c n else n = 10 → O = result I c

/-- What it holds before point `n`. -/
def ready : ℕ → (S2048x1024.Idx → Elt F .bf16) → Prop
  | 0, _ => True
  | n + 1, O => left I c n O

/-! ## The slots and the transfers, sorted by what they are used for -/

theorem freshT (k : Fin 12) (hk : k.val < 6) : iprop(pre (F := F) c k ∗ slot (F := F) (nxt c) (dstI k)) ⊢ fresh (F := F) c k := by
  unfold fresh dest; rw [if_pos hk]
theorem freshB (k : Fin 12) (hk : ¬ k.val < 6) : iprop(pre (F := F) c k ∗ slot (F := F) (prv c) (dstI k)) ⊢ fresh (F := F) c k := by
  unfold fresh dest; rw [if_neg hk]

/-- The slots, and the transfers, conjoined one by one. -/
theorem all20 {M : Type} [URA M] (Φ : Fin 20 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ
theorem all12 {M : Type} [URA M] (Φ : Fin 12 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- The slots a device sends its own values from. -/
def srcs : sProp 𝕄 :=
  iprop(slot (F := F) c (srcI 0) ∗ slot (F := F) c (srcI 6) ∗ slot (F := F) c (srcI 1) ∗ slot (F := F) c (srcI 7)
    ∗ slot (F := F) c (srcI 2) ∗ slot (F := F) c (srcI 8) ∗ slot (F := F) c (srcI 3) ∗ slot (F := F) c (srcI 9))

theorem slots_split : (bigSep Finset.univ fun i : Fin 20 => slot (F := F) c i) ⊢ iprop(landsT (F := F) c ∗ landsB (F := F) c ∗ srcs (F := F) c) := by
  rw [all20]
  unfold landsT landsB srcs
  iintro ⟨H0, H1, H2, H3, H4, H5, H6, H7, H8, H9, H10, H11, H12, H13, H14, H15, H16, H17, H18, H19⟩
  isplitl [H3 H4 H5 H7 H8 H9]
  · isplitl [H3]; · iexact H3
    isplitl [H4]; · iexact H4
    isplitl [H5]; · iexact H5
    isplitl [H7]; · iexact H7
    isplitl [H8]; · iexact H8
    iexact H9
  isplitl [H13 H14 H15 H17 H18 H19]
  · isplitl [H13]; · iexact H13
    isplitl [H14]; · iexact H14
    isplitl [H15]; · iexact H15
    isplitl [H17]; · iexact H17
    isplitl [H18]; · iexact H18
    iexact H19
  isplitl [H0]; · iexact H0
  isplitl [H10]; · iexact H10
  isplitl [H1]; · iexact H1
  isplitl [H11]; · iexact H11
  isplitl [H2]; · iexact H2
  isplitl [H12]; · iexact H12
  isplitl [H6]; · iexact H6
  iexact H16

theorem slots_join : iprop(d (F := F) c 0 6 ∗ d (F := F) c 1 7 ∗ d (F := F) c 2 8 ∗ gathered (F := F) c)
    ⊢ iprop((bigSep Finset.univ fun i : Fin 20 => slot (F := F) c i) ∗ bigSep Finset.univ fun k : Fin 12 => over (F := F) c k) := by
  rw [all20, all12]
  unfold d gathered overS
  iintro ⟨⟨⟨O0, H0⟩, ⟨O6, H10⟩, H3, H13⟩, ⟨⟨O1, H1⟩, ⟨O7, H11⟩, H4, H14⟩, ⟨⟨O2, H2⟩, ⟨O8, H12⟩, H5, H15⟩,
    ⟨O3, H6⟩, ⟨O9, H16⟩, ⟨O4, H7⟩, ⟨O10, H17⟩, ⟨O5, H8⟩, ⟨O11, H18⟩, H9, H19⟩
  isplitl [H0 H1 H2 H3 H4 H5 H6 H7 H8 H9 H10 H11 H12 H13 H14 H15 H16 H17 H18 H19]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  iexact O11

theorem sort_start : iprop((bigSep Finset.univ fun k : Fin 12 => pre (F := F) c k) ∗ srcs (F := F) c ∗ landsB (F := F) (prv c) ∗ landsT (F := F) (nxt c))
    ⊢ iprop(g (F := F) c 0 6 ∗ g (F := F) c 1 7 ∗ g (F := F) c 2 8 ∗ toGather (F := F) c) := by
  rw [all12]
  unfold srcs landsB landsT
  iintro ⟨⟨P0, P1, P2, P3, P4, P5, P6, P7, P8, P9, P10, P11⟩, ⟨S0, S6, S1, S7, S2, S8, S3, S9⟩, ⟨D6, D7, D8, D9, D10, D11⟩, D0, D1, D2, D3, D4, D5⟩
  ihave F0 := (freshT (F := F) c 0 (by decide)) $$ [P0 D0]
  · isplitl [P0]; · iexact P0
    iexact D0
  ihave F6 := (freshB (F := F) c 6 (by decide)) $$ [P6 D6]
  · isplitl [P6]; · iexact P6
    iexact D6
  ihave F1 := (freshT (F := F) c 1 (by decide)) $$ [P1 D1]
  · isplitl [P1]; · iexact P1
    iexact D1
  ihave F7 := (freshB (F := F) c 7 (by decide)) $$ [P7 D7]
  · isplitl [P7]; · iexact P7
    iexact D7
  ihave F2 := (freshT (F := F) c 2 (by decide)) $$ [P2 D2]
  · isplitl [P2]; · iexact P2
    iexact D2
  ihave F8 := (freshB (F := F) c 8 (by decide)) $$ [P8 D8]
  · isplitl [P8]; · iexact P8
    iexact D8
  ihave F3 := (freshT (F := F) c 3 (by decide)) $$ [P3 D3]
  · isplitl [P3]; · iexact P3
    iexact D3
  ihave F9 := (freshB (F := F) c 9 (by decide)) $$ [P9 D9]
  · isplitl [P9]; · iexact P9
    iexact D9
  ihave F4 := (freshT (F := F) c 4 (by decide)) $$ [P4 D4]
  · isplitl [P4]; · iexact P4
    iexact D4
  ihave F10 := (freshB (F := F) c 10 (by decide)) $$ [P10 D10]
  · isplitl [P10]; · iexact P10
    iexact D10
  ihave F5 := (freshT (F := F) c 5 (by decide)) $$ [P5 D5]
  · isplitl [P5]; · iexact P5
    iexact D5
  ihave F11 := (freshB (F := F) c 11 (by decide)) $$ [P11 D11]
  · isplitl [P11]; · iexact P11
    iexact D11
  unfold g toGather
  isplitl [F0 F6 S0 S6]
  · isplitl [F0]; · iexact F0
    isplitl [F6]; · iexact F6
    isplitl [S0]; · iexact S0
    iexact S6
  isplitl [F1 F7 S1 S7]
  · isplitl [F1]; · iexact F1
    isplitl [F7]; · iexact F7
    isplitl [S1]; · iexact S1
    iexact S7
  isplitl [F2 F8 S2 S8]
  · isplitl [F2]; · iexact F2
    isplitl [F8]; · iexact F8
    isplitl [S2]; · iexact S2
    iexact S8
  isplitl [F3]; · iexact F3
  isplitl [F9]; · iexact F9
  isplitl [F4]; · iexact F4
  isplitl [F10]; · iexact F10
  isplitl [F5]; · iexact F5
  isplitl [F11]; · iexact F11
  isplitl [S3]; · iexact S3
  iexact S9

end

/-! ## The inputs, read off the memory -/

variable (m : (ℓ : Loc nD τ sig) → Buf (Elt F) ℓ)

def insOf : Ins F where
  x c := iblk m c 0 t0_0
  rw c := iblk m c 1 t0_0
  rt c := iblk m c 2 t0_0
  w c j := iblk m c 3 ⟨j.val, by have := j.isLt; show j.val < grid0.N; rw [N_0]; omega⟩
  sw c := iblk m c 4 t0_0

theorem x_at (c : Dev nD) (t : Fin cfg0.N) : iblk m c 0 t = (insOf m).x c := by
  rcases fin_N0 t with rfl | rfl | rfl | rfl | rfl | rfl | rfl | rfl | rfl | rfl | rfl <;> rfl
theorem rw_at (c : Dev nD) (t : Fin cfg0.N) : iblk m c 1 t = (insOf m).rw c := by
  rcases fin_N0 t with rfl | rfl | rfl | rfl | rfl | rfl | rfl | rfl | rfl | rfl | rfl <;> rfl
theorem rt_at (c : Dev nD) (t : Fin cfg0.N) : iblk m c 2 t = (insOf m).rt c := by
  rcases fin_N0 t with rfl | rfl | rfl | rfl | rfl | rfl | rfl | rfl | rfl | rfl | rfl <;> rfl
theorem sw_at (c : Dev nD) (t : Fin cfg0.N) : iblk m c 4 t = (insOf m).sw c := by
  rcases fin_N0 t with rfl | rfl | rfl | rfl | rfl | rfl | rfl | rfl | rfl | rfl | rfl <;> rfl
theorem w_at (c : Dev nD) (t : Fin cfg0.N) (ht : t.val < 8) : (insOf m).w c (fin8 t.val) = iblk m c 3 t := by
  unfold insOf fin8
  dsimp only
  have e : ∀ (j : ℕ) (hj : j < cfg0.N), j = t.val → iblk m c 3 ⟨j, hj⟩ = iblk m c 3 t := fun j hj h => by subst h; rfl
  exact e _ _ (Nat.mod_eq_of_lt ht)

theorem coord_val (t : Fin grid0.N) : ((grid0.coords t) 0).val = t.val := by
  rcases fin_N0 t with rfl | rfl | rfl | rfl | rfl | rfl | rfl | rfl | rfl | rfl | rfl <;> rfl

/-! ## The data -/

def dat (c : Dev nD) : Dat τ (Elt F) Unit ℕ UU ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | 5, _ => fun _ => Classical.choice inferInstance
    | ⟨_ + 6, h⟩, _ => absurd h (Nat.not_lt.2 (Nat.le_add_left _ _))
  Φ t := Phi (insOf m) c t.val
  q _ := fullShare
  owed t := owedAt c t.val

def fgt : Fin 6 → Bool := fun | 5 => true | _ => false

def Rl (c : Dev nD) : (w : Fin cfg0.W) → Fin cfg0.N → ((cfg0.win w).block.Idx → Elt F (cfg0.win w).elt) → Prop
  | 5, t, X => left (insOf m) c t.val X
  | _, _, _ => True

theorem before_0 (c : Dev nD) (t : Fin cfg0.N) (d) : (dat m c).before 0 t d = iblk m c 0 t :=
  ((dat m c).before_in_eq_fetched 0 rfl (fun _ => rfl) (fun _ _ _ => rfl) (fun t => rfl) t d).trans rfl
theorem before_1 (c : Dev nD) (t : Fin cfg0.N) (d) : (dat m c).before 1 t d = iblk m c 1 t :=
  ((dat m c).before_in_eq_fetched 1 rfl (fun _ => rfl) (fun _ _ _ => rfl) (fun t => rfl) t d).trans rfl
theorem before_2 (c : Dev nD) (t : Fin cfg0.N) (d) : (dat m c).before 2 t d = iblk m c 2 t :=
  ((dat m c).before_in_eq_fetched 2 rfl (fun _ => rfl) (fun _ _ _ => rfl) (fun t => rfl) t d).trans rfl
theorem before_3 (c : Dev nD) (t : Fin cfg0.N) (d) : (dat m c).before 3 t d = iblk m c 3 t :=
  ((dat m c).before_in_eq_fetched 3 rfl (fun _ => rfl) (fun _ _ _ => rfl) (fun t => rfl) t d).trans rfl
theorem before_4 (c : Dev nD) (t : Fin cfg0.N) (d) : (dat m c).before 4 t d = iblk m c 4 t :=
  ((dat m c).before_in_eq_fetched 4 rfl (fun _ => rfl) (fun _ _ _ => rfl) (fun t => rfl) t d).trans rfl

/-- What the body may find in the result's staging buffer. -/
theorem finds_ready (c : Dev nD) (t : Fin cfg0.N) {Y} (h : ((dat m c).toRRel fgt (Rl m c)).Finds 5 t Y) : ready (insOf m) c t.val Y := by
  have hf : (cfg0.win 5).fetch t = false := rfl
  rcases t with ⟨_ | n, ht⟩
  · trivial
  · rcases (((dat m c).toRRel fgt (Rl m c)).finds_of_pos hf (Nat.succ_ne_zero n) Y).mp h with h' | h'
    · have hN : n + 1 < 11 := by have := ht; rwa [show cfg0.N = 11 from N_0] at this
      have := (flush0_5 _).mp h'
      dsimp only at this
      omega
    · exact (dat m c).toRRel_leaves (w := 5) rfl h'

/-! ## The body, a point at a time -/

/-- The inputs' staging buffers, and the result's. -/
def stageIn (c : Dev nD) (t : Fin cfg0.N) : sProp 𝕄 :=
  iprop(own c (st0_0 t) fullShare ((insOf m).x c) ∗ own c (st0_1 t) fullShare ((insOf m).rw c) ∗ own c (st0_2 t) fullShare ((insOf m).rt c)
    ∗ own c (st0_3 t) fullShare (iblk m c 3 t) ∗ own c (st0_4 t) fullShare ((insOf m).sw c))
def before (c : Dev nD) (t : Fin cfg0.N) : sProp 𝕄 :=
  iprop(Phi (insOf m) c t.val ∗ owesE c (owedAt c t.val) ∗ stageIn m c t ∗ ∃ O, ⌜ready (insOf m) c t.val O⌝ ∗ own c (st0_5 t) fullShare O)
def after (c : Dev nD) (t : Fin cfg0.N) : sProp 𝕄 :=
  iprop(Phi (insOf m) c (t.val + 1) ∗ owesE c (owedAt c (t.val + 1)) ∗ stageIn m c t ∗ ∃ O, ⌜left (insOf m) c t.val O⌝ ∗ own c (st0_5 t) fullShare O)

theorem step0 (c : Dev nD) : before m c t0_0 ⊢ run c (bodyAt0 t0_0) (fun _ => after m c t0_0) := by
  have hw : iblk m c 3 t0_0 = (insOf m).w c (fin8 0) := (w_at m c t0_0 (by decide)).symm
  unfold before after stageIn
  rw [hw]
  show iprop(Phi0 (insOf m) c ∗ owesE c (O₀ c) ∗ _ ∗ _) ⊢ run c _ fun _ => iprop(PhiE (insOf m) c 1 ∗ owesE c (Ox c order) ∗ _ ∗ _)
  unfold Phi0 startOf PhiE
  iintro ⟨⟨⟨%K, #HP, ⟨Ht, Hb, Ha, Hc⟩, Hpre⟩, Hs, ⟨%P, H8⟩, ⟨%E, H9⟩⟩, HO, ⟨H0, H1, H2, H3, H4⟩, ⟨%O, -, H5⟩⟩
  ihave Hs := (slots_split (F := F) c) $$ Hs
  icases Hs with ⟨HT, HB, Hs⟩
  iapply (point0 (insOf m) c K (grid0.coords t0_0) (st0_0 t0_0) (hstage0_0 ((cfg0.slots t0_0 0).cast nbuf0_0)) (st0_1 t0_0) (hstage0_1 ((cfg0.slots t0_0 1).cast nbuf0_1)) (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4)) (st0_5 t0_0) (hstage0_5 ((cfg0.slots t0_0 5).cast nbuf0_5)) (coord_val t0_0) (P := P) (E := E) (O := O)) $$ [HO Ht Hb Ha Hc HT HB H0 H1 H2 H3 H5 H8 H9]
  · isplitr; · iexact HP
    isplitl [HO]; · iexact HO
    isplitl [Ht Hb Ha Hc HT HB]
    · unfold atStart
      isplitl [Ht]; · iexact Ht
      isplitl [Hb]; · iexact Hb
      isplitl [Ha]; · iexact Ha
      isplitl [Hc]; · iexact Hc
      isplitl [HT] <;> iassumption
    isplitl [H0 H2 H8]
    · isplitl [H8]; · iexact H8
      isplitl [H2]; · iexact H2
      iexact H0
    isplitl [H1]; · iexact H1
    isplitl [H3]; · iexact H3
    isplitl [H9]; · iexact H9
    iexact H5
  unfold rows3
  iintro ⟨HO, ⟨Hv, HB, HT⟩, ⟨H8, H2, H0⟩, H1, H3, H9, ⟨%O', %hO, H5⟩⟩
  ihave Hg := (sort_start (F := F) c) $$ [Hpre Hs HB HT]
  · isplitl [Hpre]; · iexact Hpre
    isplitl [Hs]; · iexact Hs
    isplitl [HB] <;> iassumption
  isplitl [Hv Hg H8 H9]
  · iexists K
    isplitr; · iexact HP
    isplitl [Hv]; · iexact Hv
    isplitl [Hg]; · iexact Hg
    isplitl [H8]; · iexact H8
    iexact H9
  isplitl [HO]; · iexact HO
  isplitl [H0 H1 H2 H3 H4]
  · isplitl [H0]; · iexact H0
    isplitl [H1]; · iexact H1
    isplitl [H2]; · iexact H2
    isplitl [H3]; · iexact H3
    iexact H4
  iexists O'
  isplitr; · ipureintro; exact hO
  iexact H5

theorem stepS (c : Dev nD) (s : ℕ) (hs : s + 1 < 7) (t : Fin cfg0.N) (ht : t.val = s + 1) :
    before m c t ⊢ run c (bodyAt0 t) (fun _ => after m c t) := by
  have hw : iblk m c 3 t = (insOf m).w c (fin8 (s + 1)) := by rw [← ht]; exact (w_at m c t (by omega)).symm
  have hl : ∀ O, left (insOf m) c s O → blk (bT 0 c) O = accT (insOf m) c s ∧ blk (bB 0 c) O = accB (insOf m) c s := fun O h => by
    unfold left at h; rwa [if_pos (by omega)] at h
  have hl' : ∀ O, blk (bT 0 c) O = accT (insOf m) c (s + 1) ∧ blk (bB 0 c) O = accB (insOf m) c (s + 1) → left (insOf m) c (s + 1) O := fun O h => by
    unfold left; rwa [if_pos (by omega)]
  unfold before after stageIn
  rw [hw, ht, Phi_E _ _ s (by omega), Phi_E _ _ (s + 1) hs, owedAt_E _ s (by omega), owedAt_E _ (s + 1) hs]
  unfold PhiE
  iintro ⟨⟨%K, #HP, Hv, Hg, H8, ⟨%E, %hE, H9⟩⟩, HO, ⟨H0, H1, H2, H3, H4⟩, ⟨%O, %hO, H5⟩⟩
  iapply (pointS (insOf m) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) s ((coord_val t).trans ht) hs (E := E) (O := O) hE (hl O hO).1 (hl O hO).2) $$ [H0 H2 H8 H3 H9 H5]
  · unfold rows3
    isplitl [H0 H2 H8]
    · isplitl [H8]; · iexact H8
      isplitl [H2]; · iexact H2
      iexact H0
    isplitl [H3]; · iexact H3
    isplitl [H9]; · iexact H9
    iexact H5
  unfold rows3
  iintro ⟨⟨H8, H2, H0⟩, H3, H9, ⟨%O', %hO', H5⟩⟩
  isplitl [Hv Hg H8 H9]
  · iexists K
    isplitr; · iexact HP
    isplitl [Hv]; · iexact Hv
    isplitl [Hg]; · iexact Hg
    isplitl [H8]; · iexact H8
    iexact H9
  isplitl [HO]; · iexact HO
  isplitl [H0 H1 H2 H3 H4]
  · isplitl [H0]; · iexact H0
    isplitl [H1]; · iexact H1
    isplitl [H2]; · iexact H2
    isplitl [H3]; · iexact H3
    iexact H4
  iexists O'
  isplitr; · ipureintro; exact hl' O' hO'
  iexact H5

theorem step7 (c : Dev nD) : before m c t0_7 ⊢ run c (bodyAt0 t0_7) (fun _ => after m c t0_7) := by
  have hw : iblk m c 3 t0_7 = (insOf m).w c (fin8 (6 + 1)) := (w_at m c t0_7 (by decide)).symm
  have hl : ∀ O, ready (insOf m) c 7 O → blk (bT 0 c) O = accT (insOf m) c 6 ∧ blk (bB 0 c) O = accB (insOf m) c 6 := fun O h => h
  unfold before after stageIn
  rw [hw]
  show iprop(PhiE (insOf m) c (6 + 1) ∗ owesE c (Ox c order) ∗ _ ∗ ∃ O, ⌜ready (insOf m) c 7 O⌝ ∗ _) ⊢ run c _ fun _ =>
    iprop(PhiL (insOf m) c _ ∗ owesE c (Ox c [1, 7, 2, 8, 3, 9, 4, 10, 5, 11]) ∗ _ ∗ _)
  unfold PhiE PhiL
  iintro ⟨⟨%K, #HP, Hv, ⟨Hg0, Hg⟩, H8, ⟨%E, %hE, H9⟩⟩, HO, ⟨H0, H1, H2, H3, H4⟩, ⟨%O, %hO, H5⟩⟩
  iapply (point7 (insOf m) c K (grid0.coords t0_7) (st0_0 t0_7) (hstage0_0 ((cfg0.slots t0_7 0).cast nbuf0_0)) (st0_1 t0_7) (hstage0_1 ((cfg0.slots t0_7 1).cast nbuf0_1)) (st0_2 t0_7) (hstage0_2 ((cfg0.slots t0_7 2).cast nbuf0_2)) (st0_3 t0_7) (hstage0_3 ((cfg0.slots t0_7 3).cast nbuf0_3)) (st0_4 t0_7) (hstage0_4 ((cfg0.slots t0_7 4).cast nbuf0_4)) (st0_5 t0_7) (hstage0_5 ((cfg0.slots t0_7 5).cast nbuf0_5)) (coord_val t0_7) (E := E) (O := O) hE (hl O hO).1 (hl O hO).2) $$ [HO Hg0 H0 H2 H8 H3 H9 H5]
  · isplitr; · iexact HP
    isplitl [HO]; · iexact HO
    isplitl [Hg0]; · iexact Hg0
    unfold rows3
    isplitl [H0 H2 H8]
    · isplitl [H8]; · iexact H8
      isplitl [H2]; · iexact H2
      iexact H0
    isplitl [H3]; · iexact H3
    isplitl [H9]; · iexact H9
    iexact H5
  unfold rows3
  iintro ⟨HO, Hh, ⟨H8, H2, H0⟩, H3, ⟨%E', %hE', H9⟩, ⟨%O', H5⟩⟩
  have hE'' := stacked_eq (insOf m) (c := c) hE'
  subst hE''
  isplitl [Hv Hh Hg H8 H9]
  · iexists K
    isplitr; · iexact HP
    isplitl [Hv]; · iexact Hv
    isplitl [Hh Hg]; · isplitl [Hh] <;> iassumption
    isplitl [H8]; · iexact H8
    iexact H9
  isplitl [HO]; · iexact HO
  isplitl [H0 H1 H2 H3 H4]
  · isplitl [H0]; · iexact H0
    isplitl [H1]; · iexact H1
    isplitl [H2]; · iexact H2
    isplitl [H3]; · iexact H3
    iexact H4
  iexists O'
  isplitr; · ipureintro; intro h; exact absurd h (by decide)
  iexact H5

theorem step8 (c : Dev nD) : before m c t0_8 ⊢ run c (bodyAt0 t0_8) (fun _ => after m c t0_8) := by
  unfold before after stageIn
  show iprop(PhiL (insOf m) c _ ∗ owesE c (Ox c [1, 7, 2, 8, 3, 9, 4, 10, 5, 11]) ∗ _ ∗ _) ⊢ run c _ fun _ =>
    iprop(PhiL (insOf m) c _ ∗ owesE c (Ox c [2, 8, 3, 9, 4, 10, 5, 11]) ∗ _ ∗ _)
  unfold PhiL
  iintro ⟨⟨%K, #HP, Hv, ⟨Hh, Hg, Hr⟩, H8, H9⟩, HO, ⟨H0, H1, H2, H3, H4⟩, ⟨%O, -, H5⟩⟩
  iapply (point8 (insOf m) c K (grid0.coords t0_8) (st0_0 t0_8) (hstage0_0 ((cfg0.slots t0_8 0).cast nbuf0_0)) (st0_1 t0_8) (hstage0_1 ((cfg0.slots t0_8 1).cast nbuf0_1)) (st0_2 t0_8) (hstage0_2 ((cfg0.slots t0_8 2).cast nbuf0_2)) (st0_3 t0_8) (hstage0_3 ((cfg0.slots t0_8 3).cast nbuf0_3)) (st0_4 t0_8) (hstage0_4 ((cfg0.slots t0_8 4).cast nbuf0_4)) (st0_5 t0_8) (hstage0_5 ((cfg0.slots t0_8 5).cast nbuf0_5)) (coord_val t0_8) O) $$ [HO Hh Hg H0 H2 H8 H9 H5]
  · isplitr; · iexact HP
    isplitl [HO]; · iexact HO
    isplitl [Hh]; · iexact Hh
    isplitl [Hg]; · iexact Hg
    unfold rows3
    isplitl [H0 H2 H8]
    · isplitl [H8]; · iexact H8
      isplitl [H2]; · iexact H2
      iexact H0
    isplitl [H9]; · iexact H9
    iexact H5
  unfold rows3
  iintro ⟨HO, Hd, Hh, ⟨H8, H2, H0⟩, H9, ⟨%O', H5⟩⟩
  isplitl [Hv Hd Hh Hr H8 H9]
  · iexists K
    isplitr; · iexact HP
    isplitl [Hv]; · iexact Hv
    isplitl [Hd Hh Hr]
    · isplitl [Hd]; · iexact Hd
      isplitl [Hh] <;> iassumption
    isplitl [H8]; · iexact H8
    iexact H9
  isplitl [HO]; · iexact HO
  isplitl [H0 H1 H2 H3 H4]
  · isplitl [H0]; · iexact H0
    isplitl [H1]; · iexact H1
    isplitl [H2]; · iexact H2
    isplitl [H3]; · iexact H3
    iexact H4
  iexists O'
  isplitr; · ipureintro; intro h; exact absurd h (by decide)
  iexact H5

theorem step9 (c : Dev nD) : before m c t0_9 ⊢ run c (bodyAt0 t0_9) (fun _ => after m c t0_9) := by
  unfold before after stageIn
  show iprop(PhiL (insOf m) c _ ∗ owesE c (Ox c [2, 8, 3, 9, 4, 10, 5, 11]) ∗ _ ∗ _) ⊢ run c _ fun _ =>
    iprop(PhiL (insOf m) c _ ∗ owesE c (Ox c [3, 9, 4, 10, 5, 11]) ∗ _ ∗ _)
  unfold PhiL
  iintro ⟨⟨%K, #HP, Hv, ⟨Hd0, Hh, Hg, Hr⟩, H8, H9⟩, HO, ⟨H0, H1, H2, H3, H4⟩, ⟨%O, -, H5⟩⟩
  iapply (point9 (insOf m) c K (grid0.coords t0_9) (st0_0 t0_9) (hstage0_0 ((cfg0.slots t0_9 0).cast nbuf0_0)) (st0_1 t0_9) (hstage0_1 ((cfg0.slots t0_9 1).cast nbuf0_1)) (st0_2 t0_9) (hstage0_2 ((cfg0.slots t0_9 2).cast nbuf0_2)) (st0_3 t0_9) (hstage0_3 ((cfg0.slots t0_9 3).cast nbuf0_3)) (st0_4 t0_9) (hstage0_4 ((cfg0.slots t0_9 4).cast nbuf0_4)) (st0_5 t0_9) (hstage0_5 ((cfg0.slots t0_9 5).cast nbuf0_5)) (coord_val t0_9) O) $$ [HO Hh Hg H0 H2 H8 H9 H5]
  · isplitr; · iexact HP
    isplitl [HO]; · iexact HO
    isplitl [Hh]; · iexact Hh
    isplitl [Hg]; · iexact Hg
    unfold rows3
    isplitl [H0 H2 H8]
    · isplitl [H8]; · iexact H8
      isplitl [H2]; · iexact H2
      iexact H0
    isplitl [H9]; · iexact H9
    iexact H5
  unfold rows3
  iintro ⟨HO, Hd, Hh, ⟨H8, H2, H0⟩, H9, ⟨%O', H5⟩⟩
  isplitl [Hv Hd0 Hd Hh Hr H8 H9]
  · iexists K
    isplitr; · iexact HP
    isplitl [Hv]; · iexact Hv
    isplitl [Hd0 Hd Hh Hr]
    · isplitl [Hd0]; · iexact Hd0
      isplitl [Hd]; · iexact Hd
      isplitl [Hh] <;> iassumption
    isplitl [H8]; · iexact H8
    iexact H9
  isplitl [HO]; · iexact HO
  isplitl [H0 H1 H2 H3 H4]
  · isplitl [H0]; · iexact H0
    isplitl [H1]; · iexact H1
    isplitl [H2]; · iexact H2
    isplitl [H3]; · iexact H3
    iexact H4
  iexists O'
  isplitr; · ipureintro; intro h; exact absurd h (by decide)
  iexact H5

theorem step10 (c : Dev nD) : before m c t0_10 ⊢ run c (bodyAt0 t0_10) (fun _ => after m c t0_10) := by
  unfold before after stageIn
  show iprop(PhiL (insOf m) c _ ∗ owesE c (Ox c [3, 9, 4, 10, 5, 11]) ∗ _ ∗ _) ⊢ run c _ fun _ =>
    iprop(PhiL (insOf m) c _ ∗ owesE c (Ox c []) ∗ _ ∗ _)
  unfold PhiL
  iintro ⟨⟨%K, #HP, Hv, ⟨Hd0, Hd1, Hh, Hr⟩, H8, H9⟩, HO, ⟨H0, H1, H2, H3, H4⟩, ⟨%O, -, H5⟩⟩
  iapply (point10 (insOf m) c K (grid0.coords t0_10) (st0_0 t0_10) (hstage0_0 ((cfg0.slots t0_10 0).cast nbuf0_0)) (st0_1 t0_10) (hstage0_1 ((cfg0.slots t0_10 1).cast nbuf0_1)) (st0_2 t0_10) (hstage0_2 ((cfg0.slots t0_10 2).cast nbuf0_2)) (st0_3 t0_10) (hstage0_3 ((cfg0.slots t0_10 3).cast nbuf0_3)) (st0_4 t0_10) (hstage0_4 ((cfg0.slots t0_10 4).cast nbuf0_4)) (st0_5 t0_10) (hstage0_5 ((cfg0.slots t0_10 5).cast nbuf0_5)) (coord_val t0_10) O) $$ [HO Hh Hr H0 H2 H8 H9 H4 H5]
  · isplitr; · iexact HP
    isplitl [HO]; · iexact HO
    isplitl [Hh]; · iexact Hh
    isplitl [Hr]; · iexact Hr
    unfold rows3
    isplitl [H0 H2 H8]
    · isplitl [H8]; · iexact H8
      isplitl [H2]; · iexact H2
      iexact H0
    isplitl [H9]; · iexact H9
    isplitl [H4]; · iexact H4
    iexact H5
  unfold rows3
  iintro ⟨HO, Hd, Hg, ⟨H8, H2, H0⟩, H9, H4, H5⟩
  isplitl [Hv Hd0 Hd1 Hd Hg H8 H9]
  · iexists K
    isplitr; · iexact HP
    isplitl [Hv]; · iexact Hv
    isplitl [Hd0 Hd1 Hd Hg]
    · isplitl [Hd0]; · iexact Hd0
      isplitl [Hd1]; · iexact Hd1
      isplitl [Hd] <;> iassumption
    isplitl [H8]; · iexact H8
    iexact H9
  isplitl [HO]; · iexact HO
  isplitl [H0 H1 H2 H3 H4]
  · isplitl [H0]; · iexact H0
    isplitl [H1]; · iexact H1
    isplitl [H2]; · iexact H2
    isplitl [H3]; · iexact H3
    iexact H4
  iexists (result (insOf m) c)
  isplitr; · ipureintro; intro _; rfl
  iexact H5

theorem step (c : Dev nD) (t : Fin cfg0.N) : before m c t ⊢ run c (bodyAt0 t) (fun _ => after m c t) := by
  rcases fin_N0 t with rfl | rfl | rfl | rfl | rfl | rfl | rfl | rfl | rfl | rfl | rfl
  · exact step0 m c
  · exact stepS m c 0 (by decide) _ rfl
  · exact stepS m c 1 (by decide) _ rfl
  · exact stepS m c 2 (by decide) _ rfl
  · exact stepS m c 3 (by decide) _ rfl
  · exact stepS m c 4 (by decide) _ rfl
  · exact stepS m c 5 (by decide) _ rfl
  · exact step7 m c
  · exact step8 m c
  · exact step9 m c
  · exact step10 m c

theorem owes_in (c : Dev nD) (n : Fin (cfg0.N + 1)) : (dat m c).owesAt () n ⊢ owesE (F := F) c (owedAt c n.val) := by
  unfold Dat.owesAt Pipeline.owesWithin owesE
  iintro ⟨%W, %hW, HO⟩
  iexists W; iexact HO
theorem owes_out (c : Dev nD) (n : Fin (cfg0.N + 1)) : owesE (F := F) c (owedAt c n.val) ⊢ (dat m c).owesAt () n := by
  unfold Dat.owesAt Pipeline.owesWithin owesE
  iintro ⟨%W, HO⟩
  iexists W
  isplitr; · ipureintro; exact fun _ _ => Or.inl trivial
  iexact HO

theorem Phi_in (c : Dev nD) (t : Fin cfg0.N) : (dat m c).Φ t.castSucc = Phi (insOf m) c t.val := rfl
theorem Phi_out (c : Dev nD) (t : Fin cfg0.N) : (dat m c).Φ t.succ = Phi (insOf m) c (t.val + 1) := rfl

theorem body_rel (c : Dev nD) : Pipeline.BodyObligationRel (dat m c) (defs₀ (F := F)) 𝒱₀ () Set.univ fgt (Rl m c) := fun t => by
  rw [bigSep_W0, bigSep_W0]
  show iprop((dat m c).Φ t.castSucc ∗ (dat m c).owesAt () t.castSucc
      ∗ (∃ d, own c (st0_0 t) fullShare ((dat m c).before 0 t d)) ∗ (∃ d, own c (st0_1 t) fullShare ((dat m c).before 1 t d))
      ∗ (∃ d, own c (st0_2 t) fullShare ((dat m c).before 2 t d)) ∗ (∃ d, own c (st0_3 t) fullShare ((dat m c).before 3 t d))
      ∗ (∃ d, own c (st0_4 t) fullShare ((dat m c).before 4 t d))
      ∗ ∃ Y, ⌜((dat m c).toRRel fgt (Rl m c)).Finds 5 t Y⌝ ∗ own c (st0_5 t) fullShare Y)
    ⊢ run c (bodyAt0 t) fun _ => iprop((dat m c).Φ t.succ ∗ (dat m c).owesAt () t.succ
      ∗ own c (st0_0 t) fullShare (iblk m c 0 t) ∗ own c (st0_1 t) fullShare (iblk m c 1 t) ∗ own c (st0_2 t) fullShare (iblk m c 2 t)
      ∗ own c (st0_3 t) fullShare (iblk m c 3 t) ∗ own c (st0_4 t) fullShare (iblk m c 4 t)
      ∗ ∃ X, ⌜left (insOf m) c t.val X⌝ ∗ own c (st0_5 t) fullShare X)
  simp only [before_0, before_1, before_2, before_3, before_4, x_at, rw_at, rt_at, sw_at]
  have hin : iprop((dat m c).Φ t.castSucc ∗ (dat m c).owesAt () t.castSucc
      ∗ (∃ d : S2048x1024.Idx → Elt F .bf16, own c (st0_0 t) fullShare ((insOf m).x c)) ∗ (∃ d : S1024x32.Idx → Elt F .bf16, own c (st0_1 t) fullShare ((insOf m).rw c))
      ∗ (∃ d : S2048x1.Idx → Elt F .i32, own c (st0_2 t) fullShare ((insOf m).rt c)) ∗ (∃ d : S1x1024x1024.Idx → Elt F .bf16, own c (st0_3 t) fullShare (iblk m c 3 t))
      ∗ (∃ d : S1024x1024.Idx → Elt F .bf16, own c (st0_4 t) fullShare ((insOf m).sw c))
      ∗ ∃ Y, ⌜((dat m c).toRRel fgt (Rl m c)).Finds 5 t Y⌝ ∗ own c (st0_5 t) fullShare Y) ⊢ before m c t := by
    unfold before stageIn
    iintro ⟨HF, HO, ⟨%d0, H0⟩, ⟨%d1, H1⟩, ⟨%d2, H2⟩, ⟨%d3, H3⟩, ⟨%d4, H4⟩, ⟨%Y, %hY, H5⟩⟩
    isplitl [HF]; · iapply (Entails.of_eq (Phi_in m c t)); iexact HF
    isplitl [HO]; · iapply (owes_in m c t.castSucc); iexact HO
    isplitl [H0 H1 H2 H3 H4]
    · isplitl [H0]; · iexact H0
      isplitl [H1]; · iexact H1
      isplitl [H2]; · iexact H2
      isplitl [H3]; · iexact H3
      iexact H4
    iexists Y
    isplitr; · ipureintro; exact finds_ready m c t hY
    iexact H5
  have hout : after m c t ⊢ iprop((dat m c).Φ t.succ ∗ (dat m c).owesAt () t.succ
      ∗ own c (st0_0 t) fullShare ((insOf m).x c) ∗ own c (st0_1 t) fullShare ((insOf m).rw c) ∗ own c (st0_2 t) fullShare ((insOf m).rt c)
      ∗ own c (st0_3 t) fullShare (iblk m c 3 t) ∗ own c (st0_4 t) fullShare ((insOf m).sw c)
      ∗ ∃ X, ⌜left (insOf m) c t.val X⌝ ∗ own c (st0_5 t) fullShare X) := by
    unfold after stageIn
    iintro ⟨HF, HO, ⟨H0, H1, H2, H3, H4⟩, H5⟩
    isplitl [HF]; · iapply (Entails.of_eq (Phi_out m c t).symm); iexact HF
    isplitl [HO]; · iapply (owes_out m c t.succ); iexact HO
    isplitl [H0]; · iexact H0
    isplitl [H1]; · iexact H1
    isplitl [H2]; · iexact H2
    isplitl [H3]; · iexact H3
    isplitl [H4]; · iexact H4
    iexact H5
  exact (hin.trans (step m c t)).trans (wp_mono _ _ _ fun _ => hout)

end Cert.Moe

end
-- ==== Proof.Launch.lean ====
/-
# The launch

Every device's semaphores, the barrier's too, become cells of the schedule, and the tokens of the duties go to the devices that
pay them; what the devices owe at the start is what they are credited.  The run then leaves the result of the protocol on
every device, the arguments as they were, and every semaphore at zero.
-/
module

public import proofs.«01_k».proof.Proof.Body
public import Idealize.ShloMosaic.Lib.MemrefSat
public import Idealize.ShloMosaic.Lib.Pipeline.ArrRel
public import Idealize.ShloMosaic.Lib.Pipeline.Launch
public import Idealize.ShloMosaic.Lib.Quiescent
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [FloatOps F]

local notation "𝕄" => MT nD τ sig Unit (Elt F) ℕ UU ℕ

/-! ## The kernel's own semaphores -/

def osem (k : Fin 24) : SemLoc sig := csem k.succ

theorem csem_injective : Function.Injective csem := by decide +kernel
theorem ownSemFacts : Pipeline.OwnSemFacts cfg0.spec osem := by decide +kernel

theorem kcell_injective : Function.Injective (kcell : Dev nD × Fin 25 → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

def eS : Fin 12 ↪ Fin 24 := ⟨fun k => ⟨k.val, by omega⟩, fun a b h => Fin.ext (congrArg (fun x : Fin 24 => x.val) h)⟩
def eR : Fin 12 ↪ Fin 24 := ⟨fun k => ⟨12 + k.val, by omega⟩, fun a b h => Fin.ext (by have := congrArg (fun x : Fin 24 => x.val) h; dsimp only at this; omega)⟩
theorem eS_succ (k : Fin 12) : (eS k).succ = jS k := Fin.ext (Nat.add_comm _ _)
theorem eR_succ (k : Fin 12) : (eR k).succ = jR k := Fin.ext (by show 12 + k.val + 1 = 13 + k.val; omega)

theorem by24 {M : Type} [URA M] (Φ : Fin 24 → sProp M) :
    bigSep Finset.univ Φ = iprop((bigSep Finset.univ fun k : Fin 12 => Φ (eS k)) ∗ bigSep Finset.univ fun k : Fin 12 => Φ (eR k)) := by
  rw [← bigSep_map eS, ← bigSep_map eR]
  have hu : (Finset.univ : Finset (Fin 24)) = Finset.univ.map eS ∪ Finset.univ.map eR := by decide +kernel
  rw [hu]; exact bigSep_union (by decide +kernel)
theorem by25 {M : Type} [URA M] (Φ : Fin 25 → sProp M) :
    bigSep Finset.univ Φ = iprop(Φ 0 ∗ (bigSep Finset.univ fun k : Fin 12 => Φ (jS k)) ∗ bigSep Finset.univ fun k : Fin 12 => Φ (jR k)) := by
  have h : bigSep (Finset.univ : Finset (Fin 25)) Φ = iprop(Φ 0 ∗ bigSep Finset.univ fun k : Fin 24 => Φ k.succ) := by
    rw [Fin.univ_succ, Finset.cons_eq_insert]
    refine (bigSep_insert (by simp [Fin.succ_ne_zero])).trans ?_
    rw [bigSep_map]; rfl
  rw [h, by24]; simp only [eS_succ, eR_succ]

/-! ## Cells and tokens -/

def ringCells : Finset (GSem nD τ sig) := Finset.univ.map ⟨kcell, kcell_injective⟩

def eTok : Dev nD × Fin 25 ↪ GSem nD τ sig × ℕ × Bool := ⟨fun ck => (kcell ck, 0, false), fun a b h => kcell_injective (congrArg Prod.fst h)⟩
def eBar : Dev nD ↪ GSem nD τ sig × ℕ × Bool :=
  ⟨fun c => (barCell c, 0, true), fun a b h => by have := congrArg (fun x : GSem nD τ sig × ℕ × Bool => x.1.1.1) h; exact this⟩
def ringToks : Finset (GSem nD τ sig × ℕ × Bool) := Finset.univ.map eTok ∪ Finset.univ.map eBar

theorem toks_disjoint : Disjoint ((Finset.univ : Finset (Dev nD × Fin 25)).map eTok) ((Finset.univ : Finset (Dev nD)).map eBar) := by
  rw [Finset.disjoint_left]
  intro x hx hy
  obtain ⟨a, _, rfl⟩ := Finset.mem_map.mp hx
  obtain ⟨b, _, hb⟩ := Finset.mem_map.mp hy
  exact absurd (congrArg (fun x : GSem nD τ sig × ℕ × Bool => x.2.2) hb) (by show ¬ (true = false); decide)

def u₀ : UU := (initOf (Pipeline.cells cfgs cellOf_inj) (Pipeline.launchToks cfgs cellOf_inj), initOf ringCells ringToks)

section
variable (I : Ins F)

def toks (c : Dev nD) : sProp 𝕄 :=
  iprop((bigSep Finset.univ fun k : Fin 25 => dutyTok ER (kcell (c, k)) 0 false) ∗ dutyTok ER (barCell c) 0 true)

/-- What device `c` has of the schedule's start, -/
def G (c : Dev nD) : sProp 𝕄 :=
  iprop((bigSep Finset.univ fun k : Fin 25 => roundState ER (Rd I) (kcell (c, k)) 0)
    ∗ (bigSep Finset.univ fun k : Fin 25 => iprop(atPos ER (kcell (c, k)) 0 ∅ 0 ∗ reached ER (kcell (c, k)) 0)) ∗ toks (F := F) c)

/-- the tokens of the duties it pays, -/
def payToks (c : Dev nD) : sProp 𝕄 :=
  iprop(dutyTok ER (barCell (prv c)) 0 true ∗ dutyTok ER (barCell (nxt c)) 0 false
    ∗ (bigSep Finset.univ fun k : Fin 12 => dutyTok ER (sndCell c k) 0 false)
    ∗ bigSep Finset.univ fun k : Fin 12 => dutyTok ER (rcvCell (dest k c) k) 0 false)

/-- and what it starts with. -/
def linear (c : Dev nD) : sProp 𝕄 :=
  iprop((bigSep Finset.univ fun k : Fin 25 => atPos ER (kcell (c, k)) 0 ∅ 0) ∗ payToks (F := F) c)
def G' (c : Dev nD) : sProp 𝕄 := iprop(∃ K, records I K ∗ linear (F := F) c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks toks
    refine (bigSep_union toks_disjoint).trans ?_
    rw [bigSep_map, bigSep_map, bigSep_univ_prod, bigSep_sep']; rfl
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev own0 (c : Dev nD) : sProp 𝕄 := Pipeline.ownSems0 (Ix := Unit) (Name := ℕ) (U := UU) (Lvl := ℕ) (Val := Elt F) (τ := τ) osem c

theorem own0_eq (c : Dev nD) : own0 (F := F) c = bigSep Finset.univ fun k : Fin 12 => over (F := F) c k := by
  unfold own0 Pipeline.ownSems0 osem over
  rw [by24, bigSep_sep']
  simp only [eS_succ, eR_succ, csem_snd, csem_rcv]
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) : iprop(own0 (F := F) c ∗ unscopedSems0 c) ⊢ (bigSep Finset.univ fun k : Fin 25 => semVal (kcell (c, k)) 0 : sProp 𝕄) := by
  rw [own0_eq, unscopedSems0_eq, by25]
  simp only [kS, kR]
  unfold over; rw [bigSep_sep']
  iintro ⟨⟨HS, HV⟩, HB⟩
  isplitl [HB]; · iexact HB
  isplitl [HS] <;> iassumption

theorem core_alloc (c : Dev nD) : iprop(own0 (F := F) c ∗ unscopedSems0 c ∗ G I c)
    ⊢ |={Set.univ}=> iprop((bigSep Finset.univ fun k => iprop(∃ κ : ℕ, cellInv ER (Rd I) κ (kcell (c, k))))
        ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  have hinv : iprop((bigSep Finset.univ fun k : Fin 25 => semVal (kcell (c, k)) 0) ∗ bigSep Finset.univ fun k : Fin 25 => roundState ER (Rd I) (kcell (c, k)) 0)
      ⊢ (|={Set.univ}=> bigSep Finset.univ fun k => iprop(∃ κ : ℕ, cellInv ER (Rd I) κ (kcell (c, k))) : sProp 𝕄) := by
    rw [← bigSep_sep']
    exact (bigSep_mono fun k _ => (Rounds.body_intro ER (Rd I) (kcell (c, k))).trans inv_alloc).trans (bigSep_fupd _ _)
  imod hinv $$ [Hv Hst] with Hinv
  · isplitl [Hv] <;> iassumption
  imodintro
  isplitl [Hinv]; · iexact Hinv
  isplitl [Hat]; · iexact Hat
  iexact Htok

theorem by_transfer {M : Type} [URA M] (Φ : Dev nD → Fin 12 → sProp M) :
    (bigSep Finset.univ fun c : Dev nD => bigSep Finset.univ fun k : Fin 12 => Φ c k) = bigSep Finset.univ fun k : Fin 12 => bigSep Finset.univ fun c : Dev nD => Φ c k := by
  rw [← bigSep_univ_prod (fun ck : Dev nD × Fin 12 => Φ ck.1 ck.2), bigSep_univ_equiv (Equiv.prodComm (Fin 12) (Dev nD)) (fun ck : Dev nD × Fin 12 => Φ ck.1 ck.2),
    bigSep_univ_prod]
  rfl

def destE (k : Fin 12) : Dev nD ≃ Dev nD := ⟨dest k, frm k, frm_dest k, dest_frm k⟩

/-- Each token from the device whose cell it is of to the device that pays. -/
theorem toks_around : (bigSep Finset.univ fun c : Dev nD => (toks (F := F) c : sProp 𝕄)) ⊢ bigSep Finset.univ fun c : Dev nD => payToks (F := F) c := by
  have hr : (bigSep Finset.univ fun c : Dev nD => bigSep Finset.univ fun k : Fin 12 => (dutyTok ER (rcvCell c k) 0 false : sProp 𝕄))
      = bigSep Finset.univ fun c : Dev nD => bigSep Finset.univ fun k : Fin 12 => (dutyTok ER (rcvCell (dest k c) k) 0 false : sProp 𝕄) := by
    rw [by_transfer, by_transfer fun (c : Dev nD) (k : Fin 12) => (dutyTok ER (rcvCell (dest k c) k) 0 false : sProp 𝕄)]
    exact bigSep_congr fun k _ => bigSep_univ_equiv (destE k) _
  unfold toks payToks
  simp only [by25, kS, kR]
  rw [bigSep_sep', bigSep_sep', bigSep_sep', bigSep_sep', bigSep_sep', bigSep_sep', hr,
    bigSep_univ_equiv ring (fun c : Dev nD => (dutyTok ER (kcell (c, 0)) 0 false : sProp 𝕄)),
    bigSep_univ_equiv ring.symm (fun c : Dev nD => (dutyTok ER (barCell c) 0 true : sProp 𝕄))]
  iintro ⟨⟨H1, H2, H3⟩, H4⟩
  isplitl [H4]; · iexact H4
  isplitl [H1]; · iexact H1
  isplitl [H2]; · iexact H2
  iexact H3

theorem regroup :
    (bigSep Finset.univ fun c : Dev nD => iprop((bigSep Finset.univ fun k => iprop(∃ κ : ℕ, cellInv ER (Rd I) κ (kcell (c, k))))
        ∗ (bigSep Finset.univ fun k => iprop(atPos ER (kcell (c, k)) 0 ∅ 0 ∗ reached ER (kcell (c, k)) 0)) ∗ toks (F := F) c) : sProp 𝕄)
      ⊢ bigSep Finset.univ (G' I) := by
  rw [bigSep_sep', bigSep_sep', ← bigSep_univ_prod (fun ck : Dev nD × Fin 25 => iprop(∃ κ : ℕ, cellInv ER (Rd I) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (Rd I) κ (kcell ck) : sProp 𝕄))) $$ HI
  icases HK with ⟨%K, #HI⟩
  ihave Htk := (toks_around (F := F)) $$ Htok
  have hg : ∀ c ∈ (Finset.univ : Finset (Dev nD)), iprop(records I K ∗ linear (F := F) c) ⊢ G' I c := fun c _ => by
    unfold G'; iintro ⟨H1, H2⟩; iexists K; isplitl [H1] <;> iassumption
  iapply (BI.bigSep_with_persistent hg)
  isplitr
  · unfold records; isplitl; · iexact HI
    iexact HR
  · unfold linear; rw [bigSep_sep']
    isplitl [Hat]; · iexact Hat
    iexact Htk

theorem glob : (bigSep Finset.univ fun c => iprop(own0 (F := F) c ∗ unscopedSems0 c ∗ G I c) : sProp 𝕄) ⊢ |={Set.univ}=> bigSep Finset.univ (G' I) :=
  ((bigSep_mono fun c _ => core_alloc I c).trans (bigSep_fupd _ _)).trans (BI.fupd_mono (regroup I))

end

/-! ## The credit -/

theorem bar_ne_rcv {c d : Dev nD} {k : Fin 12} : barCell c ≠ rcvCell d k := fun h => by
  have := congrArg Prod.snd h; cases this
theorem bar_eq {a b : Dev nD} (h : barCell a = barCell b) : a = b := congrArg (fun g : GSem nD τ sig => g.1.1) h
theorem rcv_eq {a b : Dev nD} {k j : Fin 12} (h : rcvCell a k = rcvCell b j) : a = b ∧ k = j := by
  refine ⟨congrArg (fun g : GSem nD τ sig => g.1.1) h, ?_⟩
  have h2 : SemLoc.dma (rcvQ k) = SemLoc.dma (rcvQ j) := congrArg Prod.snd h
  rw [← xferOf_rcv k, ← xferOf_rcv j, SemLoc.dma.inj h2]

theorem Ox_bar (d c : Dev nD) : ∀ ks, Ox d ks (barCell c) () = 0
  | [] => rfl
  | k :: ks => by
    unfold Ox
    rw [Pi.add_apply, Finsupp.add_apply, Ox_bar d c ks, tallyAt_ne_cell bar_ne_rcv]; rfl
theorem Ox_rcv (d c : Dev nD) (k : Fin 12) : ∀ ks, Ox d ks (rcvCell c k) () = if d = frm k c then ks.count k * N else 0
  | [] => by simp [Ox]
  | j :: ks => by
    unfold Ox
    rw [Pi.add_apply, Finsupp.add_apply, Ox_rcv d c k ks, tallyAt_apply, List.count_cons]
    by_cases hd : d = frm k c
    · subst hd
      rw [if_pos rfl, if_pos rfl]
      by_cases hj : j = k
      · subst hj; rw [dest_frm, if_pos ⟨rfl, rfl⟩, if_pos (by simp), Nat.add_mul, Nat.one_mul]
      · rw [if_neg (fun h => hj (rcv_eq h.1).2.symm), if_neg (by simpa using hj), Nat.add_zero, Nat.add_zero]
    · have hn : ¬ (rcvCell c k = rcvCell (dest j d) j ∧ () = ()) := fun h => hd (by
        obtain ⟨h1, h2⟩ := rcv_eq h.1
        subst h2; rw [h1, frm_dest])
      rw [if_neg hd, if_neg hd, if_neg hn]
theorem order_once (k : Fin 12) : order.count k = 1 := by revert k; decide

theorem owed_bar (d c : Dev nD) : O₀ d (barCell c) () = (if d = prv c then 1 else 0) + (if d = nxt c then 1 else 0) := by
  unfold O₀ O₁
  rw [Pi.add_apply, Finsupp.add_apply, Pi.add_apply, Finsupp.add_apply, Ox_bar, tallyAt_apply, tallyAt_apply, Nat.zero_add]
  congr 1
  · by_cases h : d = prv c
    · subst h; rw [nxt_prv, if_pos ⟨rfl, rfl⟩, if_pos rfl]
    · rw [if_neg (fun h' => h (by rw [bar_eq h'.1, prv_nxt])), if_neg h]
  · by_cases h : d = nxt c
    · subst h; rw [prv_nxt, if_pos ⟨rfl, rfl⟩, if_pos rfl]
    · rw [if_neg (fun h' => h (by rw [bar_eq h'.1, nxt_prv])), if_neg h]
theorem owed_rcv (d c : Dev nD) (k : Fin 12) : O₀ d (rcvCell c k) () = if d = frm k c then N else 0 := by
  unfold O₀ O₁
  rw [Pi.add_apply, Finsupp.add_apply, Pi.add_apply, Finsupp.add_apply, Ox_rcv, order_once, tallyAt_ne_cell bar_ne_rcv.symm,
    tallyAt_ne_cell bar_ne_rcv.symm, Finsupp.zero_apply, Nat.add_zero, Nat.add_zero, Nat.one_mul]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_rcv (c : Dev nD) (k : Fin 12) :
    tallyOn (rcvCell c k) (launchCredit (Pipeline.owing O₀) 0 (rcvCell c k)) = (tallyAt (rcvCell c k) () N : CellTallies nD τ sig Unit) := by
  unfold tallyAt; refine congrArg _ (Finsupp.ext fun u => ?_); cases u
  rw [Pipeline.launchCredit_owing, Finsupp.single_eq_same, Finset.sum_congr rfl fun d _ => owed_rcv d c k,
    Finset.sum_ite_eq' Finset.univ (frm k c) fun _ => N, if_pos (Finset.mem_univ _)]

def eRcv : Fin 12 ↪ SemLoc sig := ⟨fun k => .dma (rcvQ k), fun a b h => by
  have h' : rcvQ a = rcvQ b := SemLoc.dma.inj h
  rw [← xferOf_rcv a, ← xferOf_rcv b, h']⟩

theorem creds (c : Dev nD) :
    (Pipeline.launchCred O₀ c : sProp 𝕄) ⊢ iprop(cred (tallyAt (barCell c) () 2) ∗ bigSep Finset.univ fun k : Fin 12 => cred (tallyAt (rcvCell c k) () N)) := by
  unfold Pipeline.launchCred
  rw [bigSep_univ_at _ (SemLoc.reg barS), launch_bar]
  refine sep_mono_right ?_
  have hs : (Finset.univ : Finset (Fin 12)).map eRcv ⊆ Finset.univ.erase (SemLoc.reg barS) := fun x hx => by
    obtain ⟨k, _, rfl⟩ := Finset.mem_map.mp hx
    have hne : SemLoc.dma (rcvQ k) ≠ SemLoc.reg barS := fun h => by cases h
    exact Finset.mem_erase.mpr ⟨hne, Finset.mem_univ _⟩
  refine (bigSep_subset hs).trans ?_
  rw [bigSep_map]
  exact bigSep_mono fun k _ => Entails.of_eq (congrArg cred (launch_rcv c k))

/-! ## Into the first state, out of the last -/

variable (m : (ℓ : Loc nD τ sig) → Buf (Elt F) ℓ) (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> iprop(startOf (insOf m) c ∗ emp) := by
  iintro ⟨-, Hlev, Hcr, -, HG⟩
  ihave Hc := (creds (F := F) c) $$ Hcr
  unfold startOf G' linear payToks pers pre
  simp only [by25, kS, kR, bigSep_sep']
  icases Hc with ⟨H1, HN⟩
  icases HG with ⟨%K, HR, ⟨HaB, HaS, HaR⟩, HtP, HtN, HtS, HtR⟩
  imodintro
  isplitl
  · iexists K
    isplitl [HR Hlev]; · isplitl [HR] <;> iassumption
    isplitl [HtP HtN HaB H1]
    · isplitl [HtP]; · iexact HtP
      isplitl [HtN]; · iexact HtN
      isplitl [HaB]; · iexact HaB
      iexact H1
    isplitl [HaS]; · iexact HaS
    isplitl [HaR]; · iexact HaR
    isplitl [HtS]; · iexact HtS
    isplitl [HtR]; · iexact HtR
    iexact HN
  · iempintro

/-- The slots' rectangles tile the communication buffer. -/
abbrev slotR (i : Fin 20) : Rect S20x256x1024 := Rect.unit (s := S20x256x1024) ![i.val, 0, 0] S1x256x1024.size (slot_inb i)
theorem slotR_disjoint (i j : Fin 20) (h : i ≠ j) : Disjoint (slotR i).set (slotR j).set :=
  Rect.unit_disjoint (s := S20x256x1024) (0 : Fin 3) (by
    have : i.val ≠ j.val := fun h' => h (Fin.ext h')
    show i.val + 1 ≤ j.val ∨ j.val + 1 ≤ i.val
    omega)
theorem slotR_cover : (Finset.univ : Finset (Fin 20)).biUnion (fun i => (slotR i).set) = Finset.univ :=
  Finset.eq_univ_of_forall fun x => Finset.mem_biUnion.mpr ⟨⟨(x 0).val, (x 0).isLt⟩, Finset.mem_univ _, Rect.mem_set_unit.mpr fun a => by
    have := (x a).isLt
    fin_cases a
    · exact ⟨le_rfl, Nat.lt_succ_self _⟩
    · exact ⟨Nat.zero_le _, by simpa using this⟩
    · exact ⟨Nat.zero_le _, by simpa using this⟩⟩

theorem slots_of (c : Dev nD) (f : Buf (Elt F) ((c : Thread nD τ).loc cc0_scratch0)) :
    (((c : Thread nD τ).loc cc0_scratch0) ↦{fullShare} f : sProp 𝕄) ⊢ bigSep Finset.univ fun i : Fin 20 => slot (F := F) c i := by
  rw [← owns_whole (c : Thread nD τ) cc0_scratch0 fullShare f]
  refine (owns_rects (c : Thread nD τ) (Memref.whole cc0_scratch0) fullShare slotR (fun _ _ => rfl) slotR_disjoint slotR_cover f).trans ?_
  have h (i : Fin 20) : (owns (c : Thread nD τ) ((Memref.whole cc0_scratch0).slice (slotR i) (fun _ => rfl)) fullShare (fun j => f ((slotR i).emb j)) : sProp 𝕄)
      ⊢ slot (F := F) c i := by
    unfold slot own slotM
    iintro H; iexists _; iexact H
  exact bigSep_mono fun i _ => h i
theorem of_slots (c : Dev nD) :
    (bigSep Finset.univ fun i : Fin 20 => slot (F := F) c i) ⊢ (iprop(∃ f : Buf (Elt F) ((c : Thread nD τ).loc cc0_scratch0), ((c : Thread nD τ).loc cc0_scratch0) ↦{fullShare} f) : sProp 𝕄) := by
  have h1 : (bigSep Finset.univ fun i : Fin 20 => slot (F := F) c i)
      ⊢ bigSep Finset.univ fun i : Fin 20 => ownsSat (Ix := Unit) (Name := ℕ) (U := UU) (Lvl := ℕ) (c : Thread nD τ) (slotM i) fullShare (fun _ : S1x256x1024.Idx → Elt F .bf16 => True) :=
    bigSep_mono fun i _ => (ownsSat_true (c : Thread nD τ) (slotM i) fullShare).2
  refine h1.trans ?_
  refine (ownsSat_of_rects (c : Thread nD τ) (Memref.whole cc0_scratch0) fullShare slotR (fun _ _ => rfl) slotR_disjoint slotR_cover (fun _ _ => True)).trans ?_
  refine (ownsSat_elim (c : Thread nD τ) (Memref.whole cc0_scratch0) fullShare _).trans ?_
  iintro ⟨%X, -, H⟩
  iexists X
  iapply (Entails.of_eq (owns_whole (c : Thread nD τ) cc0_scratch0 fullShare X)); iexact H

theorem phi_intro (c : Dev nD) :
    iprop(startOf (insOf m) c ∗ Pipeline.prefHeld Pipeline.Prefetch.none c (fun _ => fullShare.right) (fun k => k.elim0) ∗ Pipeline.scopedRest cfg0.spec c)
      ⊢ (Phi0 (insOf m) c : sProp 𝕄) := by
  have e : (Pipeline.scopedRest cfg0.spec c : sProp 𝕄) = _ := scopedRest0_eq c
  rw [e]
  unfold Phi0
  iintro ⟨Hs, -, ⟨%f0, H0⟩, ⟨%f1, H1⟩, ⟨%f2, H2⟩⟩
  isplitl [Hs]; · iexact Hs
  isplitl [H0]; · iapply (slots_of (F := F) c f0); iexact H0
  isplitl [H1]
  · iexists f1; iapply (Entails.of_eq (owns_whole (c : Thread nD τ) cc0_scratch1 fullShare f1).symm); iexact H1
  · iexists f2; iapply (Entails.of_eq (owns_whole (c : Thread nD τ) cc0_scratch2 fullShare f2).symm); iexact H2

theorem phi_exit (c : Dev nD) :
    (PhiL (insOf m) c iprop(d (F := F) c 0 6 ∗ d (F := F) c 1 7 ∗ d (F := F) c 2 8 ∗ gathered (F := F) c) : sProp 𝕄)
      ⊢ iprop(unscopedSems0 c ∗ own0 (F := F) c ∗ Pipeline.scopedRest cfg0.spec c) := by
  have e : (Pipeline.scopedRest cfg0.spec c : sProp 𝕄) = _ := scopedRest0_eq c
  rw [e, unscopedSems0_eq, own0_eq]
  unfold PhiL
  iintro ⟨%K, -, HB, HT, H1, H2⟩
  ihave HT' := (slots_join (F := F) c) $$ HT
  icases HT' with ⟨Hs, Ho⟩
  isplitl [HB]; · iexact HB
  isplitl [Ho]; · iexact Ho
  isplitl [Hs]; · iapply (of_slots (F := F) c); iexact Hs
  isplitl [H1]
  · iexists (probs (insOf m) c); iapply (Entails.of_eq (owns_whole (c : Thread nD τ) cc0_scratch1 fullShare _)); iexact H1
  · iexists (stack (insOf m) c); iapply (Entails.of_eq (owns_whole (c : Thread nD τ) cc0_scratch2 fullShare _)); iexact H2

/-! ## The waits of the pipeline -/

theorem waits_at (c : Dev nD) (s : SemLoc sig) (hs : lvS s = 0) : ∀ n : ℕ, (levAts L lv : sProp 𝕄) ⊢ MayWait (c : Thread nD τ) s () (owedAt c n)
  | 0 => mayWait_start c s hs
  | 1 | 2 | 3 | 4 | 5 | 6 | 7 => mayWait c s order fun k _ => by rw [hs]; omega
  | 8 | 9 | 10 => mayWait c s _ fun k _ => by rw [hs]; omega
  | 11 => mayWait c s [] fun k _ => by rw [hs]; omega
  | n + 12 => mayWait c s order fun k _ => by rw [hs]; omega

/-! ## The run -/

def rdats (p : Fin 1) (c : Dev nD) : RDat τ (Elt F) Unit ℕ UU ℕ (cfgs p) c :=
  match p with | 0 => (dat m c).toRRel fgt (Rl m c)

theorem sem_low : ∀ (w : Fin cfg0.W) (s : Fin (cfg0.win w).nbuf), lvS (.dma ((cfg0.win w).sem s)) = 0 := by decide +kernel

theorem whole5 : (cfg0.win 5).WholeAt t0_10 := by decide +kernel

theorem result_at (c : Dev nD) {A : Buf (Elt F) ((cfg0.win 5).arr.view.loc (c : Thread nD τ))} (h : (rdats m 0 c).ArrAt 5 cfg0.N A) :
    A = result (insOf m) c := by
  obtain ⟨X, hX, hA⟩ := h.emb_eq_of_wholeAt whole5
  have hl : left (insOf m) c 10 X := (dat m c).toRRel_leaves (w := 5) rfl hX
  have hr : X = result (insOf m) c := by
    unfold left at hl; rw [if_neg (by omega)] at hl; exact hl rfl
  subst hr
  funext j
  exact hA j

theorem run_main : θ_run defs (onTc (τ := τ) (main (F := F))) (s₀ m ρ) fun r =>
    (∀ c : Dev nD, (r.2.mem ((c.tc : Thread nD τ).loc main_v1) = result (insOf m) c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun _ => rfl)
    (hbody := fun c => (body_rel m c).toRRel)
    (hne := fun w => by fin_cases w <;> exact Nat.succ_pos _)
    (harr := arr_whole0)
    (hstage := stage_whole0)
    (hshare := fun c w => by unfold RDat.share; split <;> rfl)
    (hdistinct := winFacts0.arr_inj)
    (O₀ := O₀)
    (howed₀ := fun _ => rfl)
    (howedN := fun _ => rfl)
    (L := L) (lv := lv) (hL := L_of_ne)
    (hwaits := fun c => Pipeline.RDat.cellsWaits_intro cfgs (rdats m) () 0 c fun w s t => waits_at c _ (sem_low w s) t.val)
    (G := G (insOf m)) (G' := G' (insOf m)) (u₀ := u₀)
    (hu₀ := by
      unfold u₀
      iintro Hu
      ihave H := (ownU_pair _ _) $$ Hu
      icases H with ⟨HP, HX⟩
      imod (fund_ring (insOf m)) $$ HX with HG
      imodintro
      isplitl [HP] <;> iassumption)
    (hglob := glob (insOf m))
    (hA := fun _ _ => rfl)
    (hpf := fun _ k => k.elim0)
    (X := startOf (insOf m)) (Y := fun c => unscopedSems0 c) (Z := fun _ => iprop(emp))
    (hX := fun c => start_intro m ρ c)
    (hin := fun c => phi_intro m c)
    (hout := fun c => phi_exit m c)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨result_at m c ((h c).1 5),
        (congrFun ((rdats m 0 c).ArrAt_in 0 rfl _) _).mp ((h c).1 0), (congrFun ((rdats m 0 c).ArrAt_in 1 rfl _) _).mp ((h c).1 1),
        (congrFun ((rdats m 0 c).ArrAt_in 2 rfl _) _).mp ((h c).1 2), (congrFun ((rdats m 0 c).ArrAt_in 3 rfl _) _).mp ((h c).1 3),
        (congrFun ((rdats m 0 c).ArrAt_in 4 rfl _) _).mp ((h c).1 4)⟩, sem_eq_zero hs fun c => (h c).2.2⟩)

end Cert.Moe

end
-- ==== Proof.Terms.lean ====
/-
# The kernel's products at an index, over the extended reals

A token's routed product with expert `e` is kept where the token's route names `e` and is zero elsewhere.  Here: one
grid point's product, and the product of a fused pass against the eight stacked experts, as sums of such products.
-/
module

public import proofs.«01_k».proof.Proof.Values
public import Idealize.ShloMosaic.Lib.Pointwise
public import Idealize.ShloMosaic.Lib.Pipeline.ValueKit

@[expose] public section

set_option maxRecDepth 16384

noncomputable section

namespace Cert.Moe

open Cert.KernelIdeal Cert.KernelIdeal.Gen
open Idealize.ShloMosaic

/-! ## Selection by a route, and a factor taken out of a sum -/

theorem sel_eq {α : Type} (a b : BitVec 32) (x y : α) : Scalar.select (IntOp.cmpi .eq a b) x y = if a = b then x else y := by
  unfold Scalar.select
  by_cases h : a = b
  · rw [if_pos h]; exact if_pos (IntOp.cmpi_eq.2 h)
  · rw [if_neg h]; exact if_neg (fun h' => h (IntOp.cmpi_eq.1 h'))

theorem sum_factor {n : ℕ} {p : EReal} (h0 : 0 ≤ p) (h1 : p ≠ ⊤) (f : Fin n → EReal) : ∑ k, p * f k = p * ∑ k, f k := by
  have key : ∀ s : Finset (Fin n), ∑ k ∈ s, p * f k = p * ∑ k ∈ s, f k := fun s => by
    classical
    induction s using Finset.induction_on with
    | empty => simp
    | insert a s ha ih => rw [Finset.sum_insert ha, Finset.sum_insert ha, ih, EReal.left_distrib_of_nonneg_of_ne_top h0 h1]
  exact key Finset.univ

theorem ofNat_inj {a b : ℕ} (ha : a < 2 ^ 32) (hb : b < 2 ^ 32) : (BitVec.ofNat 32 a = BitVec.ofNat 32 b) ↔ a = b := by
  constructor
  · intro h
    have h' := congrArg BitVec.toNat h
    rw [BitVec.toNat_ofNat, BitVec.toNat_ofNat, Nat.mod_eq_of_lt ha, Nat.mod_eq_of_lt hb] at h'
    exact h'
  · intro h; rw [h]

/-- The sum over the lanes that keeps lane `e` only. -/
theorem pick_lane (e : Fin 32) (p : Fin 32 → EReal) :
    ∑ l : Fin 32, (if BitVec.ofNat 32 l.val = BitVec.ofNat 32 e.val then p l else 0) = p e := by
  have h : ∀ l : Fin 32, (if BitVec.ofNat 32 l.val = BitVec.ofNat 32 e.val then p l else 0) = if l = e then p l else 0 := fun l => by
    have hl := l.isLt
    have he := e.isLt
    by_cases h : l = e
    · rw [if_pos h, if_pos (by rw [h])]
    · rw [if_neg h, if_neg (fun h' => h (Fin.ext ((ofNat_inj (by omega) (by omega)).1 h')))]
  rw [Finset.sum_congr rfl fun l _ => h l, Finset.sum_ite_eq' Finset.univ e p, if_pos (Finset.mem_univ e)]

/-- The product kept by a route: `p` times the product of the token's row with the expert's column. -/
def kept (r e : BitVec 32) (p : EReal) (x w : Fin 1024 → EReal) : EReal := if r = e then p * ∑ k, x k * w k else 0

/-- A token's row scaled by its coefficient for expert `e`, times the expert's column. -/
theorem scaled_sum (e : Fin 32) (r : BitVec 32) (p : Fin 32 → EReal) (x w : Fin 1024 → EReal) (h0 : 0 ≤ p e) (h1 : p e ≠ ⊤) :
    ∑ k : Fin 1024, Scalar.select (IntOp.cmpi .eq r (BitVec.ofNat 32 e.val))
        (x k * ∑ l : Fin 32, Scalar.select (IntOp.cmpi .eq (BitVec.ofNat 32 l.val) (BitVec.ofNat 32 e.val)) (p l) 0) 0 * w k
      = kept r (BitVec.ofNat 32 e.val) (p e) x w := by
  simp only [sel_eq, pick_lane]
  unfold kept
  split
  · rw [← sum_factor h0 h1]
    refine Finset.sum_congr rfl fun k _ => ?_
    rw [mul_comm (x k) (p e), mul_assoc]
  · simp

theorem scaled_sum' (e : Fin 32) (r : BitVec 32) (p : Fin 32 → EReal) (x w : Fin 1024 → EReal) (h0 : 0 ≤ p e) (h1 : p e ≠ ⊤) :
    ∑ k : Fin 1024, Scalar.select (IntOp.cmpi .eq r (BitVec.ofNat 32 e.val))
        ((x k * ∑ l : Fin 32, Scalar.select (IntOp.cmpi .eq (BitVec.ofNat 32 l.val) (BitVec.ofNat 32 e.val)) (p l) 0) * w k) 0
      = kept r (BitVec.ofNat 32 e.val) (p e) x w := by
  rw [← scaled_sum e r p x w h0 h1]
  refine Finset.sum_congr rfl fun k _ => ?_
  rw [sel_eq, sel_eq]
  split
  · rfl
  · rw [zero_mul]

/-! ## The words of the program -/

/-- Expert `s` of device `c`, among the 32. -/
def expt (c : Dev nD) (s : Fin 8) : Fin 32 := ⟨8 * c.val + s.val, by have h : c.val < 4 := c.isLt; have := s.isLt; omega⟩

theorem word_expt : ∀ (c : Dev nD) (s : Fin 8),
    Scalar.addi (Scalar.muli (wpos c) 8#32) (BitVec.ofNat 32 s.val) = BitVec.ofNat 32 (expt c s).val := by decide +kernel

/-! ## One grid point's product -/

section Products

variable (c : Dev nD) (p : Vec Ideal S256x32 .f32) (r : Vec Ideal S256x1 .i32) (x : Vec Ideal S256x1024 .bf16)

theorem pay6_at (s : Fin 8) (w : Vec Ideal S1024x1024 .bf16) (a : Fin 256) (h : Fin 1024)
    (h0 : 0 ≤ p (ix2 a (expt c s))) (h1 : p (ix2 a (expt c s)) ≠ ⊤) :
    k0_pay6 (BitVec.ofNat 32 s.val) (wpos c) lanes w p r x (ix2 a h)
      = kept (r (ix2 a 0)) (BitVec.ofNat 32 (expt c s).val) (p (ix2 a (expt c s))) (fun k => x (ix2 a k)) (fun k => w (ix2 k h)) := by
  refine Eq.trans ?_ (scaled_sum' (expt c s) (r (ix2 a 0)) (fun l => p (ix2 a l)) (fun k => x (ix2 a k)) (fun k => w (ix2 k h)) h0 h1)
  rw [← word_expt]
  pointwise [k0_pay6, lanes]

theorem pay53_at (s : Fin 8) (w : Vec Ideal S1024x1024 .bf16) (a : Fin 256) (h : Fin 1024)
    (h0 : 0 ≤ p (ix2 a (expt c s))) (h1 : p (ix2 a (expt c s)) ≠ ⊤) :
    k0_pay53 (Scalar.addi (Scalar.muli (wpos c) 8#32) (BitVec.ofNat 32 s.val)) w (k0_pay7 (BitVec.ofNat 32 s.val) (wpos c) lanes p) r x (ix2 a h)
      = kept (r (ix2 a 0)) (BitVec.ofNat 32 (expt c s).val) (p (ix2 a (expt c s))) (fun k => x (ix2 a k)) (fun k => w (ix2 k h)) := by
  refine Eq.trans ?_ (scaled_sum' (expt c s) (r (ix2 a 0)) (fun l => p (ix2 a l)) (fun k => x (ix2 a k)) (fun k => w (ix2 k h)) h0 h1)
  rw [← word_expt]
  pointwise [k0_pay53, k0_pay7, lanes]

/-! ## A fused pass -/

/-- A row of eight pieces of 1024 laid end to end, the `j`-th made with the word `j`, read at lane `s * 1024 + k`. -/
theorem piece (f : BitVec 32 → Fin 1024 → EReal) (s : Fin 8) (k : Fin 1024) {n : ℕ} (hn : n = s.val * 1024 + k.val) (h7) :
    (if h0 : n < 1024 then f 0#32 ⟨n, h0⟩ else
     if h1 : n - 1024 < 1024 then f 1#32 ⟨n - 1024, h1⟩ else
     if h2 : n - 1024 - 1024 < 1024 then f 2#32 ⟨n - 1024 - 1024, h2⟩ else
     if h3 : n - 1024 - 1024 - 1024 < 1024 then f 3#32 ⟨n - 1024 - 1024 - 1024, h3⟩ else
     if h4 : n - 1024 - 1024 - 1024 - 1024 < 1024 then f 4#32 ⟨n - 1024 - 1024 - 1024 - 1024, h4⟩ else
     if h5 : n - 1024 - 1024 - 1024 - 1024 - 1024 < 1024 then f 5#32 ⟨n - 1024 - 1024 - 1024 - 1024 - 1024, h5⟩ else
     if h6 : n - 1024 - 1024 - 1024 - 1024 - 1024 - 1024 < 1024 then f 6#32 ⟨n - 1024 - 1024 - 1024 - 1024 - 1024 - 1024, h6⟩
     else f 7#32 ⟨n - 1024 - 1024 - 1024 - 1024 - 1024 - 1024 - 1024, h7⟩) = f (BitVec.ofNat 32 s.val) k := by
  have hk := k.isLt
  have hs := s.isLt
  have step : ∀ (j i : ℕ) (hi : i < 1024), j = s.val → i = k.val → f (BitVec.ofNat 32 j) ⟨i, hi⟩ = f (BitVec.ofNat 32 s.val) k := by
    intro j i hi hj hik
    subst hj
    exact congrArg (f _) (Fin.ext hik)
  split_ifs
  · exact step 0 _ _ (by omega) (by omega)
  · exact step 1 _ _ (by omega) (by omega)
  · exact step 2 _ _ (by omega) (by omega)
  · exact step 3 _ _ (by omega) (by omega)
  · exact step 4 _ _ (by omega) (by omega)
  · exact step 5 _ _ (by omega) (by omega)
  · exact step 6 _ _ (by omega) (by omega)
  · exact step 7 _ _ (by omega) (by omega)

/-- The row of the tokens scaled for the device's expert `j`. -/
def scaledRow (a : Fin 256) (j : BitVec 32) (k : Fin 1024) : EReal :=
  Scalar.select (IntOp.cmpi .eq (r (ix2 a 0)) (Scalar.addi (Scalar.muli (wpos c) 8#32) j))
    (x (ix2 a k) * ∑ l : Fin 32, Scalar.select (IntOp.cmpi .eq (BitVec.ofNat 32 l.val)
      (Scalar.addi (Scalar.muli (wpos c) 8#32) j)) (p (ix2 a l)) 0) 0

variable (E : Vec Ideal S8192x1024 .bf16) (w : Fin 8 → Fin 1024 → Fin 1024 → EReal)

theorem fused_sum (hE : ∀ (s : Fin 8) (k h : Fin 1024) (hl : s.val * 1024 + k.val < 8192), E (ix2 ⟨s.val * 1024 + k.val, hl⟩ h) = w s k h)
    (a : Fin 256) (h : Fin 1024) (h0 : ∀ l, 0 ≤ p (ix2 a l)) (h1 : ∀ l, p (ix2 a l) ≠ ⊤) {A : Fin 8192 → EReal}
    (hA : ∀ (s : Fin 8) (k : Fin 1024) (l : Fin 8192), l.val = s.val * 1024 + k.val → A l = scaledRow c p r x a (BitVec.ofNat 32 s.val) k) :
    ∑ l : Fin 8192, A l * E (ix2 l h)
      = ∑ s : Fin 8, kept (r (ix2 a 0)) (BitVec.ofNat 32 (expt c s).val) (p (ix2 a (expt c s))) (fun k => x (ix2 a k)) (fun k => w s k h) := by
  rw [← Fin.sum_mul_add_fin 8 1024 (fun l : Fin 8192 => A l * E (ix2 l h))]
  refine Finset.sum_congr rfl fun s _ => ?_
  refine Eq.trans (Finset.sum_congr rfl fun k _ => ?_)
    (scaled_sum (expt c s) (r (ix2 a 0)) (fun l => p (ix2 a l)) (fun k => x (ix2 a k)) (fun k => w s k h) (h0 _) (h1 _))
  rw [hA s k _ rfl, hE, ← word_expt]
  rfl

theorem fusT_at (hE : ∀ (s : Fin 8) (k h : Fin 1024) (hl : s.val * 1024 + k.val < 8192), E (ix2 ⟨s.val * 1024 + k.val, hl⟩ h) = w s k h)
    (a : Fin 256) (h : Fin 1024) (h0 : ∀ l, 0 ≤ p (ix2 a l)) (h1 : ∀ l, p (ix2 a l) ≠ ⊤) :
    fusT (wpos c) p r x E (ix2 a h)
      = ∑ s : Fin 8, kept (r (ix2 a 0)) (BitVec.ofNat 32 (expt c s).val) (p (ix2 a (expt c s))) (fun k => x (ix2 a k)) (fun k => w s k h) := by
  pointwise [fusT, k0_pay22, k0_pay8, k0_pay9, k0_pay10, k0_pay11, k0_pay12, k0_pay13, k0_pay14, k0_pay15, k0_pay16, k0_pay17, k0_pay18,
    k0_pay19, k0_pay20, k0_pay21, lanes]
  refine fused_sum c p r x E w hE a h h0 h1 fun s k l hl => ?_
  have hk := k.isLt
  have hs := s.isLt
  rw [← piece (scaledRow c p r x a) s k hl (by omega)]
  unfold scaledRow
  rfl

theorem fusB_at (hE : ∀ (s : Fin 8) (k h : Fin 1024) (hl : s.val * 1024 + k.val < 8192), E (ix2 ⟨s.val * 1024 + k.val, hl⟩ h) = w s k h)
    (a : Fin 256) (h : Fin 1024) (h0 : ∀ l, 0 ≤ p (ix2 a l)) (h1 : ∀ l, p (ix2 a l) ≠ ⊤) :
    fusB (wpos c) p r x E (ix2 a h)
      = ∑ s : Fin 8, kept (r (ix2 a 0)) (BitVec.ofNat 32 (expt c s).val) (p (ix2 a (expt c s))) (fun k => x (ix2 a k)) (fun k => w s k h) := by
  pointwise [fusB, k0_pay34, k0_pay23, k0_pay24, k0_pay25, k0_pay26, k0_pay27, k0_pay28, k0_pay29, k0_pay30, k0_pay31, k0_pay32, k0_pay33, lanes]
  refine fused_sum c p r x E w hE a h h0 h1 fun s k l hl => ?_
  have hk := k.isLt
  have hs := s.isLt
  rw [← piece (scaledRow c p r x a) s k hl (by omega)]
  unfold scaledRow
  rfl

end Products

end Cert.Moe

end
-- ==== Proof.Total.lean ====
/-
# The kernel's result at an index, over the extended reals

Where all devices hold the same tokens, router, routes and shared expert, and each its eight of the 32 experts, every
device's result is, at every token, the sum over the 32 experts of the products kept by the token's route, plus the
shared expert's product.  The four parts of the sum are added in the order in which the ring visits the devices.
-/
module

public import proofs.«01_k».proof.Proof.Terms

@[expose] public section

set_option maxRecDepth 16384

noncomputable section

namespace Cert.Moe

open Cert.KernelIdeal Cert.KernelIdeal.Gen
open Idealize.ShloMosaic

variable (X : Vec Ideal S2048x1024 .bf16) (Rw : Vec Ideal S1024x32 .bf16) (Rt : Vec Ideal S2048x1 .i32)
  (W : Vec Ideal ⟨3, ![32, 1024, 1024]⟩ .bf16) (Sw : Vec Ideal S1024x1024 .bf16)

/-- The devices hold these arrays: copies of all but the experts, of which device `c` has numbers `8 c` to `8 c + 7`. -/
structure Shares (I : Ins Ideal) : Prop where
  x : ∀ c, I.x c = X
  rw : ∀ c, I.rw c = Rw
  rt : ∀ c, I.rt c = Rt
  sw : ∀ c, I.sw c = Sw
  w : ∀ c s k h, I.w c s (ix3 0 k h) = W (ix3 (expt c s) k h)

/-- The router's probability of expert `e` for token `t`. -/
def gate (t : Fin 2048) (e : Fin 32) : EReal := k0_pay52 X Rw (ix2 t e)

/-- Expert `e`'s share of token `t`'s result in column `h`. -/
def share (t : Fin 2048) (h : Fin 1024) (e : Fin 32) : EReal :=
  kept (Rt (ix2 t 0)) (BitVec.ofNat 32 e.val) (gate X Rw t e) (fun k => X (ix2 t k)) (fun k => W (ix3 e k h))

/-- Device `d`'s part of it, and the shared expert's. -/
def part (t : Fin 2048) (h : Fin 1024) (d : Dev nD) : EReal := ∑ s : Fin 8, share X Rw Rt W t h (expt d s)
def common (t : Fin 2048) (h : Fin 1024) : EReal := ∑ k : Fin 1024, X (ix2 t k) * Sw (ix2 k h)
def total (t : Fin 2048) (h : Fin 1024) : EReal :=
  part X Rw Rt W t h 0 + part X Rw Rt W t h 1 + part X Rw Rt W t h 2 + part X Rw Rt W t h 3

/-- Row `a` of block `b`. -/
def row (b : Fin 8) (a : Fin 256) : Fin 2048 := ⟨256 * b.val + a.val, by have := b.isLt; have := a.isLt; omega⟩

theorem blk_at {n : ℕ} {α : Type} (b : Fin 8) (Y : (⟨2, ![2048, n]⟩ : Shape).Idx → α) (a : Fin 256) (k : Fin n) :
    blk b Y (ix2 a k) = Y (ix2 (row b a) k) := by
  unfold blk gblk
  refine congrArg Y (funext fun i => Fin.ext ?_)
  match i with
  | ⟨0, _⟩ => show 256 * b.val + 1 * a.val = 256 * b.val + a.val; omega
  | ⟨1, _⟩ => show 0 + 1 * k.val = k.val; omega

variable {I : Ins Ideal} (H : Shares X Rw Rt W Sw I)
  (g0 : ∀ t e, 0 ≤ gate X Rw t e) (g1 : ∀ t e, gate X Rw t e ≠ ⊤)
include H

theorem wj_at (c : Dev nD) (s : Fin 8) (k h : Fin 1024) : wj I c s.val (ix2 k h) = W (ix3 (expt c s) k h) := by
  have e : fin8 s.val = s := Fin.ext (Nat.mod_eq_of_lt s.isLt)
  rw [← H.w c s k h]
  unfold wj
  rw [e]
  pointwise [k0_pay5]

theorem stack_at (c : Dev nD) (s : Fin 8) (k h : Fin 1024) (hl : s.val * 1024 + k.val < 8192) :
    stack I c (ix2 ⟨s.val * 1024 + k.val, hl⟩ h) = W (ix3 (expt c s) k h) := by
  have hk := k.isLt
  have e1 : (s.val * 1024 + k.val) / 1024 = s.val := by omega
  have e2 : (s.val * 1024 + k.val) % 1024 = k.val := by omega
  rw [← wj_at X Rw Rt W Sw H c s k h]
  show wj I c ((s.val * 1024 + k.val) / 1024) _ = _
  rw [e1]
  refine congrArg _ (funext fun i => Fin.ext ?_)
  match i with
  | ⟨0, _⟩ => exact e2
  | ⟨1, _⟩ => rfl

theorem probs_at (c : Dev nD) (t : Fin 2048) (e : Fin 32) : probs I c (ix2 t e) = gate X Rw t e := by
  unfold probs gate
  rw [H.x, H.rw]

include g0 g1

theorem termT_at (c : Dev nD) (s : Fin 8) (a : Fin 256) (h : Fin 1024) :
    termT I c s.val (ix2 a h) = share X Rw Rt W (row (bT 0 c) a) h (expt c s) := by
  unfold termT share warg
  rw [pay6_at _ _ _ _ _ _ _ _ (by rw [blk_at, probs_at X Rw Rt W Sw H]; exact g0 _ _) (by rw [blk_at, probs_at X Rw Rt W Sw H]; exact g1 _ _)]
  simp only [blk_at, probs_at X Rw Rt W Sw H, wj_at X Rw Rt W Sw H, H.x, H.rt]

theorem termB_at (c : Dev nD) (s : Fin 8) (a : Fin 256) (h : Fin 1024) :
    k0_pay53 (wexp c s.val) (wj I c s.val) (coefB I c s.val) (blk (bB 0 c) (I.rt c)) (blk (bB 0 c) (I.x c)) (ix2 a h)
      = share X Rw Rt W (row (bB 0 c) a) h (expt c s) := by
  unfold coefB share wexp warg
  rw [pay53_at _ _ _ _ _ _ _ _ (by rw [blk_at, probs_at X Rw Rt W Sw H]; exact g0 _ _) (by rw [blk_at, probs_at X Rw Rt W Sw H]; exact g1 _ _)]
  simp only [blk_at, probs_at X Rw Rt W Sw H, wj_at X Rw Rt W Sw H, H.x, H.rt]

/-- The experts of device `c` one by one. -/
theorem accT_at (c : Dev nD) (a : Fin 256) (h : Fin 1024) : ∀ (n : ℕ) (hn : n < 8),
    accT I c n (ix2 a h) = ∑ s : Fin (n + 1), share X Rw Rt W (row (bT 0 c) a) h (expt c ⟨s.val, by have := s.isLt; omega⟩)
  | 0, hn => by
    have e := termT_at X Rw Rt W Sw H g0 g1 c ⟨0, hn⟩ a h
    rw [Fin.sum_univ_one]
    refine Eq.trans ?_ e
    unfold accT
    pointwise [k0_pay54]
  | n + 1, hn => by
    have e := termT_at X Rw Rt W Sw H g0 g1 c ⟨n + 1, hn⟩ a h
    rw [Fin.sum_univ_castSucc]
    refine Eq.trans ?_ (congrArg₂ (· + ·) (accT_at c a h n (by omega)) e)
    show k0_pay56 _ _ _ = _
    pointwise [k0_pay56]

theorem accB_at (c : Dev nD) (a : Fin 256) (h : Fin 1024) : ∀ (n : ℕ) (hn : n < 8),
    accB I c n (ix2 a h) = ∑ s : Fin (n + 1), share X Rw Rt W (row (bB 0 c) a) h (expt c ⟨s.val, by have := s.isLt; omega⟩)
  | 0, hn => by
    have e := termB_at X Rw Rt W Sw H g0 g1 c ⟨0, hn⟩ a h
    rw [Fin.sum_univ_one]
    refine Eq.trans ?_ e
    unfold accB
    pointwise [k0_pay55]
  | n + 1, hn => by
    have e := termB_at X Rw Rt W Sw H g0 g1 c ⟨n + 1, hn⟩ a h
    rw [Fin.sum_univ_castSucc]
    refine Eq.trans ?_ (congrArg₂ (· + ·) (accB_at c a h n (by omega)) e)
    show k0_pay57 _ _ _ _ _ _ _ = _
    pointwise [k0_pay57]

theorem passT_at (c : Dev nD) (q : ℕ) (a : Fin 256) (h : Fin 1024) : passT I c q (ix2 a h) = part X Rw Rt W (row (bT q c) a) h c := by
  unfold passT part share
  rw [fusT_at c _ _ _ _ (fun s k h => W (ix3 (expt c s) k h)) (stack_at X Rw Rt W Sw H c) a h
    (fun l => by rw [blk_at, probs_at X Rw Rt W Sw H]; exact g0 _ _) (fun l => by rw [blk_at, probs_at X Rw Rt W Sw H]; exact g1 _ _)]
  simp only [blk_at, probs_at X Rw Rt W Sw H, H.x, H.rt]

theorem passB_at (c : Dev nD) (q : ℕ) (a : Fin 256) (h : Fin 1024) : passB I c q (ix2 a h) = part X Rw Rt W (row (bB q c) a) h c := by
  unfold passB part share
  rw [fusB_at c _ _ _ _ (fun s k h => W (ix3 (expt c s) k h)) (stack_at X Rw Rt W Sw H c) a h
    (fun l => by rw [blk_at, probs_at X Rw Rt W Sw H]; exact g0 _ _) (fun l => by rw [blk_at, probs_at X Rw Rt W Sw H]; exact g1 _ _)]
  simp only [blk_at, probs_at X Rw Rt W Sw H, H.x, H.rt]

/-! ## The ring -/

omit H g0 g1 in
theorem right_sum (f : Dev nD → EReal) (c : Dev nD) : f (prv (prv (prv c))) + f (prv (prv c)) + f (prv c) + f c = f 0 + f 1 + f 2 + f 3 := by
  have e0 : prv 0 = 3 := by decide
  have e1 : prv 1 = 0 := by decide
  have e2 : prv 2 = 1 := by decide
  have e3 : prv 3 = 2 := by decide
  match c with
  | ⟨0, _⟩ => show f (prv (prv (prv 0))) + f (prv (prv 0)) + f (prv 0) + f 0 = _; simp only [e0, e1, e2, e3]; ac_rfl
  | ⟨1, _⟩ => show f (prv (prv (prv 1))) + f (prv (prv 1)) + f (prv 1) + f 1 = _; simp only [e0, e1, e2, e3]; ac_rfl
  | ⟨2, _⟩ => show f (prv (prv (prv 2))) + f (prv (prv 2)) + f (prv 2) + f 2 = _; simp only [e0, e1, e2, e3]; ac_rfl
  | ⟨3, _⟩ => show f (prv (prv (prv 3))) + f (prv (prv 3)) + f (prv 3) + f 3 = _; simp only [e0, e1, e2, e3]

omit H g0 g1 in
theorem left_sum (f : Dev nD → EReal) (c : Dev nD) : f (nxt (nxt (nxt c))) + f (nxt (nxt c)) + f (nxt c) + f c = f 0 + f 1 + f 2 + f 3 := by
  have e0 : nxt 0 = 1 := by decide
  have e1 : nxt 1 = 2 := by decide
  have e2 : nxt 2 = 3 := by decide
  have e3 : nxt 3 = 0 := by decide
  match c with
  | ⟨0, _⟩ => show f (nxt (nxt (nxt 0))) + f (nxt (nxt 0)) + f (nxt 0) + f 0 = _; simp only [e0, e1, e2, e3]; ac_rfl
  | ⟨1, _⟩ => show f (nxt (nxt (nxt 1))) + f (nxt (nxt 1)) + f (nxt 1) + f 1 = _; simp only [e0, e1, e2, e3]; ac_rfl
  | ⟨2, _⟩ => show f (nxt (nxt (nxt 2))) + f (nxt (nxt 2)) + f (nxt 2) + f 2 = _; simp only [e0, e1, e2, e3]; ac_rfl
  | ⟨3, _⟩ => show f (nxt (nxt (nxt 3))) + f (nxt (nxt 3)) + f (nxt 3) + f 3 = _; simp only [e0, e1, e2, e3]; ac_rfl

omit H g0 g1 in
theorem bT_prv : ∀ (q : Fin 3) (c : Dev nD), bT q.val (prv c) = bT (q.val + 1) c := by decide
omit H g0 g1 in
theorem bB_nxt : ∀ (q : Fin 3) (c : Dev nD), bB q.val (nxt c) = bB (q.val + 1) c := by decide

theorem sdT0_at (c : Dev nD) (a : Fin 256) (h : Fin 1024) : sdT I 0 c (ix3 0 a h) = part X Rw Rt W (row (bT 0 c) a) h c := by
  refine Eq.trans ?_ (accT_at X Rw Rt W Sw H g0 g1 c a h 7 (by decide))
  show k0_pay35 _ _ = _
  pointwise [k0_pay35]

theorem sdB0_at (c : Dev nD) (a : Fin 256) (h : Fin 1024) : sdB I 0 c (ix3 0 a h) = part X Rw Rt W (row (bB 0 c) a) h c := by
  refine Eq.trans ?_ (accB_at X Rw Rt W Sw H g0 g1 c a h 7 (by decide))
  show k0_pay36 _ _ = _
  pointwise [k0_pay36]

theorem sdT1_at (c : Dev nD) (a : Fin 256) (h : Fin 1024) : sdT I 1 c (ix3 0 a h)
    = part X Rw Rt W (row (bT 1 c) a) h (prv c) + part X Rw Rt W (row (bT 1 c) a) h c := by
  have e0 := sdT0_at X Rw Rt W Sw H g0 g1 (prv c) a h
  rw [show bT 0 (prv c) = bT 1 c from bT_prv 0 c] at e0
  refine Eq.trans ?_ (congrArg₂ (· + ·) e0 (passT_at X Rw Rt W Sw H g0 g1 c 1 a h))
  show k0_pay37 _ _ _ = _
  pointwise [k0_pay37]

theorem sdB1_at (c : Dev nD) (a : Fin 256) (h : Fin 1024) : sdB I 1 c (ix3 0 a h)
    = part X Rw Rt W (row (bB 1 c) a) h (nxt c) + part X Rw Rt W (row (bB 1 c) a) h c := by
  have e0 := sdB0_at X Rw Rt W Sw H g0 g1 (nxt c) a h
  rw [show bB 0 (nxt c) = bB 1 c from bB_nxt 0 c] at e0
  refine Eq.trans ?_ (congrArg₂ (· + ·) e0 (passB_at X Rw Rt W Sw H g0 g1 c 1 a h))
  show k0_pay1 (k0_pay38 _) _ _ = _
  pointwise [k0_pay1, k0_pay38]

theorem sdT2_at (c : Dev nD) (a : Fin 256) (h : Fin 1024) : sdT I 2 c (ix3 0 a h)
    = part X Rw Rt W (row (bT 2 c) a) h (prv (prv c)) + part X Rw Rt W (row (bT 2 c) a) h (prv c) + part X Rw Rt W (row (bT 2 c) a) h c := by
  have e0 := sdT1_at X Rw Rt W Sw H g0 g1 (prv c) a h
  rw [show bT 1 (prv c) = bT 2 c from bT_prv 1 c] at e0
  refine Eq.trans ?_ (congrArg₂ (· + ·) e0 (passT_at X Rw Rt W Sw H g0 g1 c 2 a h))
  show k0_pay39 _ _ _ = _
  pointwise [k0_pay39]

theorem sdB2_at (c : Dev nD) (a : Fin 256) (h : Fin 1024) : sdB I 2 c (ix3 0 a h)
    = part X Rw Rt W (row (bB 2 c) a) h (nxt (nxt c)) + part X Rw Rt W (row (bB 2 c) a) h (nxt c) + part X Rw Rt W (row (bB 2 c) a) h c := by
  have e0 := sdB1_at X Rw Rt W Sw H g0 g1 (nxt c) a h
  rw [show bB 1 (nxt c) = bB 2 c from bB_nxt 1 c] at e0
  refine Eq.trans ?_ (congrArg₂ (· + ·) e0 (passB_at X Rw Rt W Sw H g0 g1 c 2 a h))
  show k0_pay2 (k0_pay40 _) _ _ = _
  pointwise [k0_pay2, k0_pay40]

/-- What the last step of the reduction leaves on device `c`: its rows of the result. -/
theorem sdT3_at (c : Dev nD) (a : Fin 256) (h : Fin 1024) : sdT I 3 c (ix3 0 a h)
    = total X Rw Rt W (row (bT 3 c) a) h + common X Sw (row (bT 3 c) a) h := by
  have e0 := sdT2_at X Rw Rt W Sw H g0 g1 (prv c) a h
  rw [show bT 2 (prv c) = bT 3 c from bT_prv 2 c] at e0
  unfold total
  rw [← right_sum (part X Rw Rt W (row (bT 3 c) a) h) c]
  refine Eq.trans ?_ (congrArg₂ (· + ·) (congrArg₂ (· + ·) e0 (passT_at X Rw Rt W Sw H g0 g1 c 3 a h)) rfl)
  unfold common
  rw [← H.sw c, ← H.x c]
  simp only [← blk_at]
  show k0_pay43 (k0_pay42 _ _ _ _) _ = _
  pointwise [k0_pay43, k0_pay42, k0_pay41]

theorem sdB3_at (c : Dev nD) (a : Fin 256) (h : Fin 1024) : sdB I 3 c (ix3 0 a h)
    = total X Rw Rt W (row (bB 3 c) a) h + common X Sw (row (bB 3 c) a) h := by
  have e0 := sdB2_at X Rw Rt W Sw H g0 g1 (nxt c) a h
  rw [show bB 2 (nxt c) = bB 3 c from bB_nxt 2 c] at e0
  unfold total
  rw [← left_sum (part X Rw Rt W (row (bB 3 c) a) h) c]
  refine Eq.trans ?_ (congrArg₂ (· + ·) (congrArg₂ (· + ·) e0 (passB_at X Rw Rt W Sw H g0 g1 c 3 a h)) rfl)
  unfold common
  rw [← H.sw c, ← H.x c]
  simp only [← blk_at]
  show k0_pay45 (k0_pay44 (k0_pay41 _) _ _ _) _ = _
  pointwise [k0_pay45, k0_pay44, k0_pay41]

/-- The result every device ends with. -/
def moe : S2048x1024.Idx → Elt Ideal .bf16 := fun i => total X Rw Rt W (i 0) (i 1) + common X Sw (i 0) (i 1)

omit H g0 g1 in
theorem bT_last : ∀ c : Dev nD, bT 3 (prv c) = bT 0 c ∧ bT 3 (prv (prv c)) = bT 1 c ∧ bT 3 (prv (prv (prv c))) = bT 2 c := by decide

theorem finT_at (c : Dev nD) : ∀ q < 4, blk (bT q c) (moe X Rw Rt W Sw) = finT I c q := by
  have key : ∀ (d : Dev nD) (q : ℕ), bT 3 d = bT q c → ∀ (a : Fin 256) (h : Fin 1024),
      blk (bT q c) (moe X Rw Rt W Sw) (ix2 a h) = sdT I 3 d (ix3 0 a h) := fun d q hq a h => by
    rw [← hq]
    exact (blk_at (bT 3 d) _ _ _).trans (sdT3_at X Rw Rt W Sw H g0 g1 d _ _).symm
  intro q hq
  funext j
  rw [eq_ix2 j]
  match q, hq with
  | 0, _ =>
    refine (key (prv c) 0 (bT_last c).1 _ _).trans ?_
    show _ = k0_pay48 (sdT I 3 (prv c)) _
    pointwise [k0_pay48]
  | 1, _ =>
    refine (key (prv (prv c)) 1 (bT_last c).2.1 _ _).trans ?_
    show _ = k0_pay50 (sdT I 3 (prv (prv c))) _
    pointwise [k0_pay50]
  | 2, _ =>
    refine (key (prv (prv (prv c))) 2 (bT_last c).2.2 _ _).trans ?_
    show _ = k0_pay3 (sdT I 3 (prv (prv (prv c)))) _
    pointwise [k0_pay3]
  | 3, _ =>
    refine (key c 3 rfl _ _).trans ?_
    show _ = k0_pay46 (sdT I 3 c) _
    pointwise [k0_pay46]

omit H g0 g1 in
theorem bB_last : ∀ c : Dev nD, bB 3 (nxt c) = bB 0 c ∧ bB 3 (nxt (nxt c)) = bB 1 c ∧ bB 3 (nxt (nxt (nxt c))) = bB 2 c := by decide

theorem finB_at (c : Dev nD) : ∀ q < 4, blk (bB q c) (moe X Rw Rt W Sw) = finB I c q := by
  have key : ∀ (d : Dev nD) (q : ℕ), bB 3 d = bB q c → ∀ (a : Fin 256) (h : Fin 1024),
      blk (bB q c) (moe X Rw Rt W Sw) (ix2 a h) = sdB I 3 d (ix3 0 a h) := fun d q hq a h => by
    rw [← hq]
    exact (blk_at (bB 3 d) _ _ _).trans (sdB3_at X Rw Rt W Sw H g0 g1 d _ _).symm
  intro q hq
  funext j
  rw [eq_ix2 j]
  match q, hq with
  | 0, _ =>
    refine (key (nxt c) 0 (bB_last c).1 _ _).trans ?_
    show _ = k0_pay49 (sdB I 3 (nxt c)) _
    pointwise [k0_pay49]
  | 1, _ =>
    refine (key (nxt (nxt c)) 1 (bB_last c).2.1 _ _).trans ?_
    show _ = k0_pay51 (sdB I 3 (nxt (nxt c))) _
    pointwise [k0_pay51]
  | 2, _ =>
    refine (key (nxt (nxt (nxt c))) 2 (bB_last c).2.2 _ _).trans ?_
    show _ = k0_pay4 (sdB I 3 (nxt (nxt (nxt c)))) _
    pointwise [k0_pay4]
  | 3, _ =>
    refine (key c 3 rfl _ _).trans ?_
    show _ = k0_pay47 (sdB I 3 c) _
    pointwise [k0_pay47]

/-- Every device's result. -/
theorem result_eq (c : Dev nD) : result I c = moe X Rw Rt W Sw :=
  (result_ext I (finT_at X Rw Rt W Sw H g0 g1 c) (finB_at X Rw Rt W Sw H g0 g1 c)).symm

end Cert.Moe

end
-- ==== Proof.Gate.lean ====
/-
# The router's probabilities

The softmax of real scores is real and not negative.
-/
module

public import proofs.«01_k».proof.Proof.Total

@[expose] public section

set_option maxRecDepth 16384

noncomputable section

namespace Cert.Moe

open Cert.KernelIdeal Cert.KernelIdeal.Gen
open Idealize.ShloMosaic

/-- A value that is neither infinity. -/
def IsReal (v : EReal) : Prop := ∃ r : ℝ, v = (r : EReal)

theorem real_sum {n : ℕ} (f : Fin n → EReal) (h : ∀ k, IsReal (f k)) : IsReal (∑ k, f k) := by
  have key : ∀ s : Finset (Fin n), IsReal (∑ k ∈ s, f k) := fun s => by
    classical
    induction s using Finset.induction_on with
    | empty => exact ⟨0, by simp⟩
    | insert a s ha ih =>
      obtain ⟨r, hr⟩ := h a
      obtain ⟨q, hq⟩ := ih
      exact ⟨r + q, by rw [Finset.sum_insert ha, hr, hq, EReal.coe_add]⟩
  exact key Finset.univ

theorem real_mul {a b : EReal} : IsReal a → IsReal b → IsReal (a * b)
  | ⟨r, hr⟩, ⟨q, hq⟩ => ⟨r * q, by rw [hr, hq, EReal.coe_mul]⟩

theorem lowest : Ideal.ofBits .f32 0xFF800000#32 = ⊥ := by simp [Ideal.ofBits, Ideal.ieee]

/-- The largest of the 32 scores is a real. -/
theorem real_max (s : Fin 32 → EReal) (h : ∀ l, IsReal (s l)) : IsReal (Finset.fold max (Ideal.ofBits .f32 0xFF800000#32) s Finset.univ) := by
  rw [lowest]
  have hb : ⊥ < Finset.fold max ⊥ s Finset.univ := by
    obtain ⟨r, hr⟩ := h 0
    exact (Finset.lt_fold_max _).2 (Or.inr ⟨0, Finset.mem_univ _, by rw [hr]; exact EReal.bot_lt_coe r⟩)
  have ht : Finset.fold max ⊥ s Finset.univ < ⊤ := (Finset.fold_max_lt _).2 ⟨bot_lt_top, fun l _ => by
    obtain ⟨r, hr⟩ := h l
    rw [hr]; exact EReal.coe_lt_top r⟩
  exact ⟨_, (EReal.coe_toReal ht.ne hb.ne').symm⟩

theorem exp_pos_sum {n : ℕ} (hn : 0 < n) (u : Fin n → ℝ) : ∃ q : ℝ, 0 < q ∧ ∑ l, Ideal.exp (u l : EReal) = (q : EReal) := by
  refine ⟨∑ l, Real.exp (u l), Finset.sum_pos (fun _ _ => Real.exp_pos _) ⟨⟨0, hn⟩, Finset.mem_univ _⟩, ?_⟩
  have key : ∀ s : Finset (Fin n), ∑ l ∈ s, Ideal.exp (u l : EReal) = ((∑ l ∈ s, Real.exp (u l) : ℝ) : EReal) := fun s => by
    classical
    induction s using Finset.induction_on with
    | empty => simp
    | insert a s ha ih => rw [Finset.sum_insert ha, Finset.sum_insert ha, ih, Ideal.exp_coe, EReal.coe_add]
  exact key Finset.univ

theorem softmax_real (s : Fin 32 → EReal) (h : ∀ l, IsReal (s l)) (m : EReal) (hm : IsReal m) (e : Fin 32) :
    ∃ q : ℝ, 0 ≤ q ∧ Ideal.div (Ideal.exp (s e - m)) (∑ l, Ideal.exp (s l - m)) = (q : EReal) := by
  obtain ⟨M, rfl⟩ := hm
  choose r hr using h
  have hs : ∀ l, s l - (M : EReal) = ((r l - M : ℝ) : EReal) := fun l => by rw [hr, EReal.coe_sub]
  simp only [hs]
  obtain ⟨q, hq, eq⟩ := exp_pos_sum (by decide : 0 < 32) (fun l => r l - M)
  rw [eq, Ideal.div_coe hq.ne', Ideal.exp_coe, ← EReal.coe_mul]
  exact ⟨_, mul_nonneg (Real.exp_pos _).le (by positivity), rfl⟩

section

variable (X : Vec Ideal S2048x1024 .bf16) (Rw : Vec Ideal S1024x32 .bf16) (hX : ∀ i, IsReal (X i)) (hR : ∀ i, IsReal (Rw i))
include hX hR

theorem gate_real (t : Fin 2048) (e : Fin 32) : ∃ q : ℝ, 0 ≤ q ∧ gate X Rw t e = (q : EReal) := by
  have hs : ∀ l : Fin 32, IsReal (∑ k : Fin 1024, X (ix2 t k) * Rw (ix2 k l)) := fun l => real_sum _ fun k => real_mul (hX _) (hR _)
  obtain ⟨q, hq, eq⟩ := softmax_real _ hs _ (real_max _ hs) e
  refine ⟨q, hq, Eq.trans ?_ eq⟩
  unfold gate
  pointwise [k0_pay52]

theorem gate_nonneg (t : Fin 2048) (e : Fin 32) : 0 ≤ gate X Rw t e := by
  obtain ⟨q, hq, eq⟩ := gate_real X Rw hX hR t e
  rw [eq]; exact EReal.coe_nonneg.2 hq

theorem gate_ne_top (t : Fin 2048) (e : Fin 32) : gate X Rw t e ≠ ⊤ := by
  obtain ⟨q, hq, eq⟩ := gate_real X Rw hX hR t e
  rw [eq]; exact EReal.coe_ne_top q

end

/-! ## A token with one route -/

section

variable (X : Vec Ideal S2048x1024 .bf16) (Rw : Vec Ideal S1024x32 .bf16) (Rt : Vec Ideal S2048x1 .i32)
  (W : Vec Ideal ⟨3, ![32, 1024, 1024]⟩ .bf16)

/-- The expert `e` is number `e % 8` of device `e / 8`. -/
theorem sum_experts (f : Fin 32 → EReal) :
    (∑ s : Fin 8, f (expt 0 s)) + (∑ s : Fin 8, f (expt 1 s)) + (∑ s : Fin 8, f (expt 2 s)) + (∑ s : Fin 8, f (expt 3 s)) = ∑ e, f e := by
  have h := Fin.sum_mul_add_fin 4 8 (fun e : Fin 32 => f e)
  rw [← h, Fin.sum_univ_four]
  have e : ∀ (c : Fin 4) (s : Fin 8) (hl : c.val * 8 + s.val < 32), expt c s = ⟨c.val * 8 + s.val, hl⟩ := fun c s hl =>
    Fin.ext (by show 8 * c.val + s.val = c.val * 8 + s.val; omega)
  refine congrArg₂ (· + ·) (congrArg₂ (· + ·) (congrArg₂ (· + ·) ?_ ?_) ?_) ?_
  · exact Finset.sum_congr rfl fun s _ => congrArg f (e 0 s _)
  · exact Finset.sum_congr rfl fun s _ => congrArg f (e 1 s _)
  · exact Finset.sum_congr rfl fun s _ => congrArg f (e 2 s _)
  · exact Finset.sum_congr rfl fun s _ => congrArg f (e 3 s _)

/-- A token routed to expert `e` gets that expert's product alone. -/
theorem total_routed (t : Fin 2048) (h : Fin 1024) (e : Fin 32) (ht : Rt (ix2 t 0) = BitVec.ofNat 32 e.val) :
    total X Rw Rt W t h = gate X Rw t e * ∑ k : Fin 1024, X (ix2 t k) * W (ix3 e k h) := by
  unfold total part
  rw [sum_experts (share X Rw Rt W t h), Finset.sum_eq_single e]
  · unfold share kept
    rw [if_pos ht]
  · intro e' _ hne
    unfold share kept
    refine if_neg fun h' => hne (Fin.ext ?_)
    have h1 := e.isLt
    have h2 := e'.isLt
    exact ((ofNat_inj (by omega) (by omega)).1 (ht.symm.trans h')).symm
  · exact fun h' => absurd (Finset.mem_univ e) h'

end

end Cert.Moe

end
-- ==== Proof.Inputs.lean ====
/-
# The devices' inputs, and the precondition

What the devices load is their part of the arrays: copies, and of the experts block `c`.  The precondition at an index:
every route is one of the 32 experts, and the tokens and the router's weights are real.
-/
module

public import proofs.«01_k».proof.Proof.Gate
public import proofs.«01_k».proof.Proof.Body
public import proofs.«01_k».proof.Defs
public import Idealize.ShloMosaic.Lib.ReduceAll
public import Idealize.ShloMosaic.Lib.LayoutAt

@[expose] public section

set_option maxRecDepth 16384

noncomputable section

namespace Cert.Moe

open Cert.KernelIdeal Cert.KernelIdeal.Gen
open Idealize.ShloMosaic Idealize.ShloMosaic.TcCoe

/-! ## What the devices load -/

section

variable (m : (ℓ : Loc nD τ sig) → Buf (Elt Ideal) ℓ)
  (X : Vec Ideal S2048x1024 .bf16) (Rw : Vec Ideal S1024x32 .bf16) (Rt : Vec Ideal S2048x1 .i32)
  (W : Vec Ideal ⟨3, ![32, 1024, 1024]⟩ .bf16) (Sw : Vec Ideal S1024x1024 .bf16)

omit m in
theorem idx_x : ∀ a, win0_0.index t0_0 a = 0 := by decide +kernel
omit m in
theorem idx_rw : ∀ a, win0_1.index t0_0 a = 0 := by decide +kernel
omit m in
theorem idx_rt : ∀ a, win0_2.index t0_0 a = 0 := by decide +kernel
omit m in
theorem idx_sw : ∀ a, win0_4.index t0_0 a = 0 := by decide +kernel
omit m in
theorem idx_w : ∀ t : Fin grid0.N, t.val < 8 → win0_3.index t 0 = t.val ∧ win0_3.index t 1 = 0 ∧ win0_3.index t 2 = 0 := by decide +kernel

theorem w_block (c : Dev nD) (s : Fin 8) (k h : Fin 1024) : (insOf m).w c s (ix3 0 k h) = m ((c : Thread nD τ).loc main_arg3) (ix3 s k h) := by
  have hs := s.isLt
  have ht : s.val < grid0.N := by rw [N_0]; omega
  obtain ⟨e0, e1, e2⟩ := idx_w ⟨s.val, ht⟩ hs
  show iblk m c 3 ⟨s.val, ht⟩ (ix3 0 k h) = _
  blk_ext [iblk, V, e0, e1, e2]

omit m in
theorem block_at (c : Dev nD) (s : Fin 8) (k h : Fin 1024) :
    (Layout.block ⟨3, ![8, 1024, 1024]⟩ ⟨3, ![32, 1024, 1024]⟩ 0 4 c W : (⟨3, ![8, 1024, 1024]⟩ : Shape).Idx → Elt Ideal .bf16) (ix3 s k h)
      = W (ix3 (expt c s) k h) := by
  refine congrArg W (funext fun a => Fin.ext ?_)
  rw [Layout.Tiles.idx_val]
  match a with
  | ⟨0, _⟩ => show c.val * 8 + s.val = 8 * c.val + s.val; omega
  | ⟨1, _⟩ => rfl
  | ⟨2, _⟩ => rfl

theorem shares (h : ∀ c : Dev nD, m ((c : Thread nD τ).loc main_arg0) = X ∧ m ((c : Thread nD τ).loc main_arg1) = Rw
      ∧ m ((c : Thread nD τ).loc main_arg2) = Rt ∧ m ((c : Thread nD τ).loc main_arg3) = Layout.block ⟨3, ![8, 1024, 1024]⟩ ⟨3, ![32, 1024, 1024]⟩ 0 4 c W
      ∧ m ((c : Thread nD τ).loc main_arg4) = Sw) : Shares X Rw Rt W Sw (insOf m) where
  x c := by
    rw [← (h c).1]
    funext j
    show iblk m c 0 t0_0 j = _
    blk_ext [iblk, V, idx_x]
  rw c := by
    rw [← (h c).2.1]
    funext j
    show iblk m c 1 t0_0 j = _
    blk_ext [iblk, V, idx_rw]
  rt c := by
    rw [← (h c).2.2.1]
    funext j
    show iblk m c 2 t0_0 j = _
    blk_ext [iblk, V, idx_rt]
  sw c := by
    rw [← (h c).2.2.2.2]
    funext j
    show iblk m c 4 t0_0 j = _
    blk_ext [iblk, V, idx_sw]
  w c s k j := by rw [w_block, (h c).2.2.2.1, block_at]

end

/-! ## The precondition -/

theorem all_of_fold {ι : Type} [DecidableEq ι] (f : ι → BitVec 1) (s : Finset ι) :
    Finset.fold IntOp.andi (1#1) f s = 1#1 → ∀ i ∈ s, f i = 1#1 := by
  induction s using Finset.induction_on with
  | empty => exact fun _ i hi => absurd hi (Finset.notMem_empty i)
  | insert a s ha ih =>
    rw [Finset.fold_insert ha]
    intro h i hi
    obtain ⟨h1, h2⟩ := IntOp.andi_eq_one.1 h
    rcases Finset.mem_insert.1 hi with rfl | hi
    · exact h1
    · exact ih h2 i hi

theorem real_of_abs (v : EReal) (h : BitVec.ofBool (decide (max v (-v) < Ideal.ofBits .bf16 0x7F80#16)) = 1#1) : IsReal v := by
  have ht : Ideal.ofBits .bf16 0x7F80#16 = ⊤ := by simp [Ideal.ofBits, Ideal.ieee]
  rw [ht] at h
  have h' : max v (-v) < ⊤ := by
    by_contra hn
    rw [decide_eq_false hn] at h
    exact absurd h (by decide)
  refine ⟨v.toReal, (EReal.coe_toReal (fun e => ?_) (fun e => ?_)).symm⟩
  · rw [e] at h'
    simp at h'
  · rw [e] at h'
    simp at h'

theorem route_of_words (r : BitVec 32) (h0 : IntOp.cmpi .sge r 0#32 = 1#1) (h1 : IntOp.cmpi .slt r 32#32 = 1#1) :
    ∃ e : Fin 32, r = BitVec.ofNat 32 e.val := by
  have h0 := IntOp.cmpi_sge.1 h0
  have h1 := IntOp.cmpi_slt.1 h1
  rw [show (0#32 : BitVec 32).toInt = 0 by decide] at h0
  rw [show (32#32 : BitVec 32).toInt = 32 by decide] at h1
  have hlt := r.isLt
  have hn : r.toNat < 32 := by
    rw [BitVec.toInt_eq_toNat_cond] at h0 h1
    split at h0 <;> omega
  exact ⟨⟨r.toNat, hn⟩, by simp⟩

section

variable [Cert.Pre_routed_KernelIdeal.Facts]
variable (x : FVec Ideal S2048x1024 .bf16) (rw : FVec Ideal S1024x32 .bf16) (rt : IVec S2048x1 32)
  (w : FVec Ideal S8x1024x1024 .bf16) (sw : FVec Ideal S1024x1024 .bf16)

theorem pre_at (t : Fin 2048) (k : Fin 1024) : Cert.Pre_routed_KernelIdeal.fn x rw rt w sw (ix2 t k)
    = IntOp.andi
        (IntOp.andi (IntOp.andi (IntOp.cmpi .sge (rt (ix2 t 0)) 0#32) (IntOp.cmpi .slt (rt (ix2 t 0)) 32#32))
          (BitVec.ofBool (decide (max (x (ix2 t k)) (-(x (ix2 t k))) < Ideal.ofBits .bf16 0x7F80#16))))
        (Finset.fold IntOp.andi (1#1)
          (fun i : Fin 1024 × Fin 32 => BitVec.ofBool (decide (max (rw (ix2 i.1 i.2)) (-(rw (ix2 i.1 i.2))) < Ideal.ofBits .bf16 0x7F80#16))) Finset.univ) := by
  pointwise [Cert.Pre_routed_KernelIdeal.fn]
  rfl

theorem routed_at (h : Cert.Pre_routed_KernelIdeal.fn x rw rt w sw = fun _ => 1#1) :
    (∀ t : Fin 2048, ∃ e : Fin 32, rt (ix2 t 0) = BitVec.ofNat 32 e.val) ∧ (∀ i, IsReal (x i)) ∧ (∀ i, IsReal (rw i)) := by
  have key := fun (t : Fin 2048) (k : Fin 1024) => (pre_at x rw rt w sw t k).symm.trans (congrFun h (ix2 t k))
  have key := fun (t : Fin 2048) (k : Fin 1024) => IntOp.andi_eq_one.1 (key t k)
  refine ⟨fun t => ?_, fun i => ?_, fun i => ?_⟩
  · obtain ⟨a, b⟩ := IntOp.andi_eq_one.1 (IntOp.andi_eq_one.1 (key t 0).1).1
    exact route_of_words _ a b
  · rw [eq_ix2 i]
    exact real_of_abs _ (IntOp.andi_eq_one.1 (key (i 0) (i 1)).1).2
  · rw [eq_ix2 i]
    exact real_of_abs _ (all_of_fold _ _ (key 0 0).2 (i 0, i 1) (Finset.mem_univ _))

end

end Cert.Moe

end
-- ==== Proof.Reference.lean ====
/-
# The reference's result at an index

The row of the reference's result for a token whose route is expert `e`: the token's product with the shared expert
plus the probability of `e` times the token's product with `e`.
-/
module

public import proofs.«01_k».proof.Proof.Gate
public import proofs.«01_k».proof.Proof.Gen.ReferenceIdeal.Run

@[expose] public section

set_option maxRecDepth 16384

noncomputable section

namespace Cert.Moe

open Cert.ReferenceIdeal Cert.ReferenceIdeal.Gen
open Idealize.ShloMosaic

/-! ## The two gathers at an index -/

/-- A route read signed and clamped into the 32 experts. -/
def clamped (w : BitVec 32) : Fin 32 := ⟨min w.toInt.toNat 31, by omega⟩

theorem clamped_ofNat (e : Fin 32) : clamped (BitVec.ofNat 32 e.val) = e := by revert e; decide

theorem gather_probs (P : S2048x32.Idx → EReal) (idx : IVec S2048x1x1 32) (t : Fin 2048) :
    Host.gather gather_S2048x32_S2048x1x1_S2048x1_n_1_0_0_1_2_11 P idx (ix2 t 0) = P (ix2 t (clamped (idx (ix3 t 0 0)))) := by
  unfold Host.gather
  congr 1
  funext a
  refine Fin.ext ?_
  show gather_S2048x32_S2048x1x1_S2048x1_n_1_0_0_1_2_11.start (ix2 t 0) idx a
    + gather_S2048x32_S2048x1x1_S2048x1_n_1_0_0_1_2_11.batchCoord (ix2 t 0) a
    + gather_S2048x32_S2048x1x1_S2048x1_n_1_0_0_1_2_11.offCoord (ix2 t 0) a = _
  obtain rfl | rfl : a = 0 ∨ a = 1 := by revert a; decide
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S2048x32_S2048x1x1_S2048x1_n_1_0_0_1_2_11.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x32_S2048x1x1_S2048x1_n_1_0_0_1_2_11.startIndexMap from List.mem_singleton.mpr rfl)]
    refine congrArg (fun w : BitVec 32 => min w.toInt.toNat 31) (congrArg idx (funext fun b => Fin.ext ?_))
    match b with
    | ⟨0, _⟩ => rfl
    | ⟨1, _⟩ => rfl
    | ⟨2, _⟩ => rfl

theorem gather_experts (W : S32x1024x1024.Idx → EReal) (idx : IVec S2048x1 32) (t : Fin 2048) (k h : Fin 1024) :
    Host.gather gather_S32x1024x1024_S2048x1_S2048x1024x1024_12_0_n_n_0_1_110241024 W idx (ix3 t k h)
      = W (ix3 (clamped (idx (ix2 t 0))) k h) := by
  unfold Host.gather
  congr 1
  funext a
  refine Fin.ext ?_
  show gather_S32x1024x1024_S2048x1_S2048x1024x1024_12_0_n_n_0_1_110241024.start (ix3 t k h) idx a
    + gather_S32x1024x1024_S2048x1_S2048x1024x1024_12_0_n_n_0_1_110241024.batchCoord (ix3 t k h) a
    + gather_S32x1024x1024_S2048x1_S2048x1024x1024_12_0_n_n_0_1_110241024.offCoord (ix3 t k h) a = _
  rw [GatherDims.batchCoord_eq_zero _ _ _ List.not_mem_nil]
  obtain rfl | rfl | rfl : a = 0 ∨ a = 1 ∨ a = 2 := by revert a; decide
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1024x1024_S2048x1_S2048x1024x1024_12_0_n_n_0_1_110241024.startIndexMap from List.mem_singleton.mpr rfl)]
    refine congrArg (fun w : BitVec 32 => min w.toInt.toNat 31) (congrArg idx (funext fun b => Fin.ext ?_))
    match b with
    | ⟨0, _⟩ => rfl
    | ⟨1, _⟩ => rfl
  · unfold GatherDims.start GatherDims.offCoord
    rw [dif_neg (show (1 : Fin 3) ∉ gather_S32x1024x1024_S2048x1_S2048x1024x1024_12_0_n_n_0_1_110241024.startIndexMap by decide), dif_pos (show (1 : Fin 3) ∈ gather_S32x1024x1024_S2048x1_S2048x1024x1024_12_0_n_n_0_1_110241024.sKept by decide)]
    simp only [Nat.zero_add]
    rfl
  · unfold GatherDims.start GatherDims.offCoord
    rw [dif_neg (show (2 : Fin 3) ∉ gather_S32x1024x1024_S2048x1_S2048x1024x1024_12_0_n_n_0_1_110241024.startIndexMap by decide), dif_pos (show (2 : Fin 3) ∈ gather_S32x1024x1024_S2048x1_S2048x1024x1024_12_0_n_n_0_1_110241024.sKept by decide)]
    simp only [Nat.zero_add]
    rfl

/-! ## The reference -/

section

variable (X : FVec Ideal S2048x1024 .bf16) (Rw : FVec Ideal S1024x32 .bf16) (Rt : IVec S2048x1 32)
  (W : FVec Ideal S32x1024x1024 .bf16) (Sw : FVec Ideal S1024x1024 .bf16)

/-- The reference's scores, their exponentials, and its probabilities. -/
def refScores : FVec Ideal S2048x32 .f32 :=
  Host.dotGeneral dot_S2048x1024_S1024x32_S2048x32_1_0_0_1_n_n none (extf .f32 X bitsLt_bf16_f32) (extf .f32 Rw bitsLt_bf16_f32)
def refExps : FVec Ideal S2048x32 .f32 :=
  Host.exp (subf (refScores X Rw) (broadcastInDim S2048x32 ![0, 1] bcast_S2048x1_S2048x32_0_1 (broadcastInDim S2048x1 ![0] bcast_S2048_S2048x1_0
    (Host.reduce FloatOps.maximumf (refScores X Rw) (constant S_ .f32 0xFF800000#32) reducesTo_S2048x32_S2048_d1 h_S_))))
def refProbs : FVec Ideal S2048x32 .f32 :=
  Host.divf (refExps X Rw) (broadcastInDim S2048x32 ![0, 1] bcast_S2048x1_S2048x32_0_1 (broadcastInDim S2048x1 ![0] bcast_S2048_S2048x1_0
    (Host.reduceAdd (refExps X Rw) (constant S_ .f32 0x00000000#32) reducesTo_S2048x32_S2048_d1 h_S_)))

/-- The routes as the reference reads the probabilities at them, and as it reads the experts at them. -/
def refRoute : IVec S2048x1x1 32 :=
  shapeCast _ (select (cmpi .slt Rt (broadcastInDim S2048x1 ![] bcast_S_S2048x1 (constantI S_ 32 0#32)))
    (addi Rt (broadcastInDim S2048x1 ![] bcast_S_S2048x1 (constantI S_ 32 32#32))) Rt) shapeCasts_S2048x1_S2048x1x1
def refRoute' : IVec S2048x1 32 := broadcastInDim S2048x1 ![0] bcast_S2048_S2048x1_0 (shapeCast _ Rt shapeCasts_S2048x1_S2048)

/-- The reference's result. -/
def refResult : FVec Ideal S2048x1024 .bf16 :=
  truncf .bf16 (addf
    (Host.dotGeneral dot_S2048x1024_S1024x1024_S2048x1024_1_0_0_1_n_n none (extf .f32 X bitsLt_bf16_f32) (extf .f32 Sw bitsLt_bf16_f32))
    (mulf
      (broadcastInDim S2048x1024 ![0, 1] bcast_S2048x1_S2048x1024_0_1
        (Host.gather gather_S2048x32_S2048x1x1_S2048x1_n_1_0_0_1_2_11 (refProbs X Rw) (refRoute Rt)))
      (Host.dotGeneral dot_S2048x1024_S2048x1024x1024_S2048x1024_1_1_n_2_0_0 none (extf .f32 X bitsLt_bf16_f32)
        (Host.gather gather_S32x1024x1024_S2048x1_S2048x1024x1024_12_0_n_n_0_1_110241024 (extf .f32 W bitsLt_bf16_f32) (refRoute' Rt)))))
    bitsLt_bf16_f32

theorem refProbs_at (t : Fin 2048) (e : Fin 32) : refProbs X Rw (ix2 t e) = gate X Rw t e := by
  unfold gate
  pointwise [refProbs, refExps, refScores, Cert.KernelIdeal.Gen.k0_pay52]

theorem refRoute_at (t : Fin 2048) (e : Fin 32) (ht : Rt (ix2 t 0) = BitVec.ofNat 32 e.val) : refRoute Rt (ix3 t 0 0) = BitVec.ofNat 32 e.val := by
  have h : ∀ e : Fin 32, Scalar.select (IntOp.cmpi .slt (BitVec.ofNat 32 e.val) 0#32) (IntOp.addi (BitVec.ofNat 32 e.val) 32#32) (BitVec.ofNat 32 e.val)
      = BitVec.ofNat 32 e.val := by decide
  refine Eq.trans ?_ (h e)
  rw [← ht]
  pointwise [refRoute]

theorem refRoute'_at (t : Fin 2048) : refRoute' Rt (ix2 t 0) = Rt (ix2 t 0) := by
  pointwise [refRoute']

theorem refResult_at (t : Fin 2048) (h : Fin 1024) (e : Fin 32) (ht : Rt (ix2 t 0) = BitVec.ofNat 32 e.val) :
    refResult X Rw Rt W Sw (ix2 t h) = gate X Rw t e * (∑ k : Fin 1024, X (ix2 t k) * W (ix3 e k h)) + common X Sw t h := by
  have hp : Host.gather gather_S2048x32_S2048x1x1_S2048x1_n_1_0_0_1_2_11 (refProbs X Rw) (refRoute Rt) (ix2 t 0) = gate X Rw t e := by
    rw [gather_probs, refRoute_at Rt t e ht, clamped_ofNat, refProbs_at]
  have hw : ∀ k : Fin 1024, Host.gather gather_S32x1024x1024_S2048x1_S2048x1024x1024_12_0_n_n_0_1_110241024 (extf .f32 W bitsLt_bf16_f32) (refRoute' Rt) (ix3 t k h)
      = W (ix3 e k h) := fun k => by
    rw [gather_experts, refRoute'_at, ht, clamped_ofNat]
    rfl
  unfold common
  rw [add_comm]
  pointwise [refResult]
  rw [hp]
  simp only [hw]

end

end Cert.Moe

end
-- ==== Proof.lean ====
/-
# The certificate

The kernel runs, both as it is and over the ideal floats, with its arguments unchanged and every semaphore at zero.
Over the ideal floats, where every route is one of the 32 experts and the tokens and the router's weights are real, every
device's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_routed_KernelIdeal
public import proofs.«01_k».proof.Proof.Gen.Pre_routed_ReferenceIdeal
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Launch
public import proofs.«01_k».proof.Proof.Inputs
public import proofs.«01_k».proof.Proof.Reference

@[expose] public section

noncomputable section

namespace Cert.Proof

open Idealize.ShloMosaic Idealize.SL.Sem

/-- The kernel's run, for any float values. -/
theorem frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.Moe.run_main m g)

theorem frame_ideal : Cert.quiescent_KernelIdeal := fun m ρ _ => frame m ρ

/-- The two programs have one body table. -/
theorem defs₀_same : @Cert.Kernel.defs₀ Bits _ _ = @Cert.KernelIdeal.defs₀ Bits _ _ := by
  unfold Cert.Kernel.defs₀ Cert.KernelIdeal.defs₀
  congr 1
  funext p a
  match p, a with
  | 0, (t, s) => rfl

theorem defs_same : @Cert.Kernel.defs Bits _ _ = @Cert.KernelIdeal.defs Bits _ _ :=
  congrArg (Pipeline.defs (Cert.KernelIdeal.pcfgs (F := Bits))) defs₀_same

/-- The program's text is the same with either floats. -/
theorem frame_kernel : Cert.quiescent_Kernel := fun m ρ _ => by
  have h := frame (F := Bits) m ρ
  rw [← defs_same] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's run. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      r.2.mem (((0 : Dev Cert.ReferenceIdeal.nD).tc : Thread Cert.ReferenceIdeal.nD Cert.ReferenceIdeal.τ).loc Cert.ReferenceIdeal.main_v22)
        = Cert.Moe.refResult
            (m (((0 : Dev Cert.ReferenceIdeal.nD).tc : Thread Cert.ReferenceIdeal.nD Cert.ReferenceIdeal.τ).loc Cert.ReferenceIdeal.main_arg0))
            (m (((0 : Dev Cert.ReferenceIdeal.nD).tc : Thread Cert.ReferenceIdeal.nD Cert.ReferenceIdeal.τ).loc Cert.ReferenceIdeal.main_arg1))
            (m (((0 : Dev Cert.ReferenceIdeal.nD).tc : Thread Cert.ReferenceIdeal.nD Cert.ReferenceIdeal.τ).loc Cert.ReferenceIdeal.main_arg2))
            (m (((0 : Dev Cert.ReferenceIdeal.nD).tc : Thread Cert.ReferenceIdeal.nD Cert.ReferenceIdeal.τ).loc Cert.ReferenceIdeal.main_arg3))
            (m (((0 : Dev Cert.ReferenceIdeal.nD).tc : Thread Cert.ReferenceIdeal.nD Cert.ReferenceIdeal.τ).loc Cert.ReferenceIdeal.main_arg4))
      ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m (((0 : Dev Cert.ReferenceIdeal.nD).tc : Thread Cert.ReferenceIdeal.nD Cert.ReferenceIdeal.τ).loc Cert.ReferenceIdeal.main_arg3)
      ∧ r.2.mem (((0 : Dev Cert.ReferenceIdeal.nD).tc : Thread Cert.ReferenceIdeal.nD Cert.ReferenceIdeal.τ).loc Cert.ReferenceIdeal.main_arg4) = m (((0 : Dev Cert.ReferenceIdeal.nD).tc : Thread Cert.ReferenceIdeal.nD Cert.ReferenceIdeal.τ).loc Cert.ReferenceIdeal.main_arg4)) :=
  (θ_run Cert.ReferenceIdeal.defs _ _).mono (fun r h => ⟨(h 0).1, (h 0).2⟩) (Cert.ReferenceIdeal.Value.run (F := Ideal) m g)

/-- Every device's result is the reference's. -/
theorem values : Cert.algebraic_KernelIdeal_ReferenceIdeal_pre_routed_KernelIdeal := fun m g m' g' hpre hin => by
  refine ⟨_, (θ_run Cert.KernelIdeal.defs _ _).mono (fun r h c => ⟨(h.1 c).1.trans ?_, (h.1 c).2⟩) (Cert.Moe.run_main m g), run_reference m' g'⟩
  obtain ⟨hr, hx, hw⟩ := Cert.Moe.routed_at _ _ _ _ _ (hpre 0)
  rw [(hin 0).2.2.1] at hr
  rw [(hin 0).1] at hx
  rw [(hin 0).2.1] at hw
  rw [Cert.Moe.result_eq _ _ _ _ _ (Cert.Moe.shares m _ _ _ _ _ hin) (Cert.Moe.gate_nonneg _ _ hx hw) (Cert.Moe.gate_ne_top _ _ hx hw) c]
  funext j
  obtain ⟨e, he⟩ := hr (j 0)
  refine Eq.trans ?_ (Eq.trans (Cert.Moe.refResult_at _ _ _ _ _ (j 0) (j 1) e he).symm (congrArg _ (eq_ix2 j).symm))
  exact congrArg₂ (· + ·) (Cert.Moe.total_routed _ _ _ _ (j 0) (j 1) e he) rfl

theorem claim : Cert.Claim :=
  ⟨Cert.Kernel.Gen.facts, Cert.KernelIdeal.Gen.facts, Cert.ReferenceIdeal.Gen.facts, Cert.Pre_routed_KernelIdeal.Gen.facts,
    Cert.Pre_routed_ReferenceIdeal.Gen.facts, frame_kernel, frame_ideal, fun m g _ => frame m g, frame_reference,
    fun m g _ => frame_reference m g trivial, trivial, values⟩

end Cert.Proof

end
